-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2pi" .f32 0x3ECC422A#32 (((Real.sqrt (2 * Real.pi))⁻¹ : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Project_ProjectIdeal : Prop :=
  IdealRules.named_const.Statement Cert.ProjectIdeal.κ "inv_sqrt2" .f32 0x3F3504F3#32 (((Real.sqrt 2)⁻¹ : ℝ) : EReal)

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)) (v3 : (c : Dev Cert.ProjectIdeal.nD) → Buf (Elt Ideal) ((c.tc : Thread Cert.ProjectIdeal.nD Cert.ProjectIdeal.τ).loc Cert.ProjectIdeal.main_v0_3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_v0_3) = v3 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v40) = v0 c
          ∧ r.2.mem ((c.tc : Thread Cert.ProjectReferenceIdeal.nD Cert.ProjectReferenceIdeal.τ).loc Cert.ProjectReferenceIdeal.main_v43) = v1 c
          ∧ r.2.mem ((c.tc : Thread Cert.ProjectReferenceIdeal.nD Cert.ProjectReferenceIdeal.τ).loc Cert.ProjectReferenceIdeal.main_v46) = v2 c
          ∧ r.2.mem ((c.tc : Thread Cert.ProjectReferenceIdeal.nD Cert.ProjectReferenceIdeal.τ).loc Cert.ProjectReferenceIdeal.main_v47) = v3 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v4) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hCombine : Cert.Combine.Facts) (hCombineIdeal : Cert.CombineIdeal.Facts) (hCombineReferenceIdeal : Cert.CombineReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Project (hProject := hProject)
    ∧ quiescent_ProjectIdeal (hProjectIdeal := hProjectIdeal)
    ∧ quiescent_ProjectReferenceIdeal (hProjectReferenceIdeal := hProjectReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Project_ProjectIdeal
    ∧ algebraic_ProjectIdeal_ProjectReferenceIdeal (hProjectIdeal := hProjectIdeal) (hProjectReferenceIdeal := hProjectReferenceIdeal)
    ∧ preserves_Combine_CombineIdeal
    ∧ algebraic_CombineIdeal_CombineReferenceIdeal (hCombineIdeal := hCombineIdeal) (hCombineReferenceIdeal := hCombineReferenceIdeal)
-- ==== Pre_finite_args.lean ====
abbrev S32x64x1024 : Shape := ⟨3, ![32, 64, 1024]⟩
abbrev S32x3 : Shape := ⟨2, ![32, 3]⟩
abbrev S1024x2048 : Shape := ⟨2, ![1024, 2048]⟩
abbrev S2048x1024 : Shape := ⟨2, ![2048, 1024]⟩
abbrev S1024x512 : Shape := ⟨2, ![1024, 512]⟩
abbrev S_ : Shape := ⟨0, ![]⟩

class Facts : Prop where
  bcast_S_S32x64x1024 : S_.BroadcastsInDim S32x64x1024 (![] : Fin 0 → Fin S32x64x1024.rank)
  reducesTo_S32x64x1024_S_d0_1_2 : S32x64x1024.ReducesTo [0, 1, 2] S_
  h_S_ : 0 < S_.numel
  bcast_S_S32x3 : S_.BroadcastsInDim S32x3 (![] : Fin 0 → Fin S32x3.rank)
  reducesTo_S32x3_S_d0_1 : S32x3.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part2 {F : FTy → Type} [FloatOps F] (main_arg5 : FVec F S2048x1024 .f32) (main_arg6 : FVec F S1024x512 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S2048x1024 .f32 := broadcastInDim S2048x1024 ![] bcast_S_S2048x1024 main_cst_13
  let main_v35 : IVec S2048x1024 1 := cmpf .olt main_arg5 main_v34
  let main_cst_14 : FVec F S_ .f32 := constant S_ .f32 0xFF800000#32
  let main_v36 : FVec F S2048x1024 .f32 := broadcastInDim S2048x1024 ![] bcast_S_S2048x1024 main_cst_14
  let main_v37 : IVec S2048x1024 1 := cmpf .ogt main_arg5 main_v36
  let main_v38 : IVec S2048x1024 1 := andi main_v35 main_v37
  let main_c_15 : IVec S_ 1 := constantI S_ 1 1#1
  let main_v39 : IVec S_ 1 := (fun x v => Host.reduce IntOp.andi x v reducesTo_S2048x1024_S_d0_1 h_S_) main_v38 main_c_15
  let main_v40 : IVec S_ 1 := andi main_v33 main_v39
  let main_cst_16 : FVec F S_ .f32 := constant S_ .f32 0x7F800000#32
  let main_v41 : FVec F S1024x512 .f32 := broadcastInDim S1024x512 ![] bcast_S_S1024x512 main_cst_16
  let main_v42 : IVec S1024x512 1 := cmpf .olt main_arg6 main_v41
  let main_cst_17 : FVec F S_ .f32 := constant S_ .f32 0xFF800000#32
  let main_v43 : FVec F S1024x512 .f32 := broadcastInDim S1024x512 ![] bcast_S_S1024x512 main_cst_17
  let main_v44 : IVec S1024x512 1 := cmpf .ogt main_arg6 main_v43
  let main_v45 : IVec S1024x512 1 := andi main_v42 main_v44
  let main_c_18 : IVec S_ 1 := constantI S_ 1 1#1
  let main_v46 : IVec S_ 1 := (fun x v => Host.reduce IntOp.andi x v reducesTo_S1024x512_S_d0_1 h_S_) main_v45 main_c_18
  let main_v47 : IVec S_ 1 := andi main_v40 main_v46
  main_v47

def fn_part1 {F : FTy → Type} [FloatOps F] (main_arg2 : FVec F S32x64x1024 .f32) (main_arg3 : FVec F S32x3 .f32) (main_arg4 : FVec F S1024x2048 .f32) (main_arg5 : FVec F S2048x1024 .f32) (main_arg6 : FVec F S1024x512 .f32) (main_v12 : IVec S_ 1) (main_v14 : IVec S32x64x1024 1) (main_v15 : FVec F S32x64x1024 .f32) : IVec S_ 1 :=
  let main_v16 : IVec S32x64x1024 1 := cmpf .ogt main_arg2 main_v15
  let main_v17 : IVec S32x64x1024 1 := andi main_v14 main_v16
  let main_c_6 : IVec S_ 1 := constantI S_ 1 1#1
  let main_v18 : IVec S_ 1 := (fun x v => Host.reduce IntOp.andi x v reducesTo_S32x64x1024_S_d0_1_2 h_S_) main_v17 main_c_6
  let main_v19 : IVec S_ 1 := andi main_v12 main_v18
  let main_cst_7 : FVec F S_ .f32 := constant S_ .f32 0x7F800000#32
  let main_v20 : FVec F S32x3 .f32 := broadcastInDim S32x3 ![] bcast_S_S32x3 main_cst_7
  let main_v21 : IVec S32x3 1 := cmpf .olt main_arg3 main_v20
  let main_cst_8 : FVec F S_ .f32 := constant S_ .f32 0xFF800000#32
  let main_v22 : FVec F S32x3 .f32 := broadcastInDim S32x3 ![] bcast_S_S32x3 main_cst_8
  let main_v23 : IVec S32x3 1 := cmpf .ogt main_arg3 main_v22
  let main_v24 : IVec S32x3 1 := andi main_v21 main_v23
  let main_c_9 : IVec S_ 1 := constantI S_ 1 1#1
  let main_v25 : IVec S_ 1 := (fun x v => Host.reduce IntOp.andi x v reducesTo_S32x3_S_d0_1 h_S_) main_v24 main_c_9
  let main_v26 : IVec S_ 1 := andi main_v19 main_v25
  let main_cst_10 : FVec F S_ .f32 := constant S_ .f32 0x7F800000#32
  let main_v27 : FVec F S1024x2048 .f32 := broadcastInDim S1024x2048 ![] bcast_S_S1024x2048 main_cst_10
  let main_v28 : IVec S1024x2048 1 := cmpf .olt main_arg4 main_v27
  let main_cst_11 : FVec F S_ .f32 := constant S_ .f32 0xFF800000#32
  let main_v29 : FVec F S1024x2048 .f32 := broadcastInDim S1024x2048 ![] bcast_S_S1024x2048 main_cst_11
  let main_v30 : IVec S1024x2048 1 := cmpf .ogt main_arg4 main_v29
  let main_v31 : IVec S1024x2048 1 := andi main_v28 main_v30
  let main_c_12 : IVec S_ 1 := constantI S_ 1 1#1
  let main_v32 : IVec S_ 1 := (fun x v => Host.reduce IntOp.andi x v reducesTo_S1024x2048_S_d0_1 h_S_) main_v31 main_c_12
  fn_part2 (F := F) main_arg5 main_arg6 main_v26 main_v32

def fn {F : FTy → Type} [FloatOps F] (main_arg0 : FVec F S32x64x1024 .f32) (main_arg1 : FVec F S32x64x1024 .f32) (main_arg2 : FVec F S32x64x1024 .f32) (main_arg3 : FVec F S32x3 .f32) (main_arg4 : FVec F S1024x2048 .f32) (main_arg5 : FVec F S2048x1024 .f32) (main_arg6 : FVec F S1024x512 .f32) : IVec S_ 1 :=
  let main_cst : FVec F S_ .f32 := constant S_ .f32 0x7F800000#32
  let main_v0 : FVec F S32x64x1024 .f32 := broadcastInDim S32x64x1024 ![] bcast_S_S32x64x1024 main_cst
  let main_v1 : IVec S32x64x1024 1 := cmpf .olt main_arg0 main_v0
  let main_cst_0 : FVec F S_ .f32 := constant S_ .f32 0xFF800000#32
  let main_v2 : FVec F S32x64x1024 .f32 := broadcastInDim S32x64x1024 ![] bcast_S_S32x64x1024 main_cst_0
  let main_v3 : IVec S32x64x1024 1 := cmpf .ogt main_arg0 main_v2
  let main_v4 : IVec S32x64x1024 1 := andi main_v1 main_v3
  let main_c : IVec S_ 1 := constantI S_ 1 1#1
  let main_v5 : IVec S_ 1 := (fun x v => Host.reduce IntOp.andi x v reducesTo_S32x64x1024_S_d0_1_2 h_S_) main_v4 main_c
  let main_cst_1 : FVec F S_ .f32 := constant S_ .f32 0x7F800000#32
  let main_v6 : FVec F S32x64x1024 .f32 := broadcastInDim S32x64x1024 ![] bcast_S_S32x64x1024 main_cst_1
  let main_v7 : IVec S32x64x1024 1 := cmpf .olt main_arg1 main_v6
  let main_cst_2 : FVec F S_ .f32 := constant S_ .f32 0xFF800000#32
  let main_v8 : FVec F S32x64x1024 .f32 := broadcastInDim S32x64x1024 ![] bcast_S_S32x64x1024 main_cst_2
  let main_v9 : IVec S32x64x1024 1 := cmpf .ogt main_arg1 main_v8
  let main_v10 : IVec S32x64x1024 1 := andi main_v7 main_v9
  let main_c_3 : IVec S_ 1 := constantI S_ 1 1#1
  let main_v11 : IVec S_ 1 := (fun x v => Host.reduce IntOp.andi x v reducesTo_S32x64x1024_S_d0_1_2 h_S_) main_v10 main_c_3
  let main_v12 : IVec S_ 1 := andi main_v5 main_v11
  let main_cst_4 : FVec F S_ .f32 := constant S_ .f32 0x7F800000#32
  let main_v13 : FVec F S32x64x1024 .f32 := broadcastInDim S32x64x1024 ![] bcast_S_S32x64x1024 main_cst_4
  let main_v14 : IVec S32x64x1024 1 := cmpf .olt main_arg2 main_v13
  let main_cst_5 : FVec F S_ .f32 := constant S_ .f32 0xFF800000#32
  let main_v15 : FVec F S32x64x1024 .f32 := broadcastInDim S32x64x1024 ![] bcast_S_S32x64x1024 main_cst_5
  fn_part1 (F := F) main_arg2 main_arg3 main_arg4 main_arg5 main_arg6 main_v12 main_v14 main_v15
-- ==== Kernel.lean ====
abbrev S32x64x1024 : Shape := ⟨3, ![32, 64, 1024]⟩
abbrev S32x3 : Shape := ⟨2, ![32, 3]⟩
abbrev S1024x2048 : Shape := ⟨2, ![1024, 2048]⟩
abbrev S2048x1024 : Shape := ⟨2, ![2048, 1024]⟩
abbrev S1024x512 : Shape := ⟨2, ![1024, 512]⟩
abbrev S2x32x32x512 : Shape := ⟨4, ![2, 32, 32, 512]⟩
abbrev S1x64x1024 : Shape := ⟨3, ![1, 64, 1024]⟩
abbrev S2x1x32x512 : Shape := ⟨4, ![2, 1, 32, 512]⟩
abbrev S1024x1024 : Shape := ⟨2, ![1024, 1024]⟩
abbrev S2 : Shape := ⟨1, ![2]⟩
abbrev S1 : Shape := ⟨1, ![1]⟩
abbrev S_ : Shape := ⟨0, ![]⟩
abbrev S1x1 : Shape := ⟨2, ![1, 1]⟩
abbrev S64x1024 : Shape := ⟨2, ![64, 1024]⟩
abbrev S128x1024 : Shape := ⟨2, ![128, 1024]⟩
abbrev S128x2048 : Shape := ⟨2, ![128, 2048]⟩
abbrev S64x512 : Shape := ⟨2, ![64, 512]⟩
abbrev S64x2048 : Shape := ⟨2, ![64, 2048]⟩
abbrev S64 : Shape := ⟨1, ![64]⟩
abbrev S64x1 : Shape := ⟨2, ![64, 1]⟩
abbrev S1x1024x2048 : Shape := ⟨3, ![1, 1024, 2048]⟩
abbrev S1x1x1 : Shape := ⟨3, ![1, 1, 1]⟩

abbrev nBuf : Space → Nat
  | .hbm => 9
  | .vmem => 16
  | .smem => 1
  | _ => 0

abbrev bufTy : (tb : Table) → Fin (tcTables nBuf tb) → BufTy
  | .hbm, ⟨0, _⟩ => ⟨S32x64x1024, .f32⟩
  | .hbm, ⟨1, _⟩ => ⟨S32x64x1024, .f32⟩
  | .hbm, ⟨2, _⟩ => ⟨S32x64x1024, .f32⟩
  | .hbm, ⟨3, _⟩ => ⟨S32x3, .f32⟩
  | .hbm, ⟨4, _⟩ => ⟨S1024x2048, .f32⟩
  | .hbm, ⟨5, _⟩ => ⟨S2048x1024, .f32⟩
  | .hbm, ⟨6, _⟩ => ⟨S1024x512, .f32⟩
  | .hbm, ⟨7, _⟩ => ⟨S1024x2048, .f32⟩
  | .hbm, ⟨8, _⟩ => ⟨S2x32x32x512, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1024x512, .f32⟩
  | .local _ .vmem, ⟨7, _⟩ => ⟨S2x1x32x512, .f32⟩
  | .local _ .vmem, ⟨8, _⟩ => ⟨S2x1x32x512, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .f32⟩
  | .local _ .vmem, ⟨14, _⟩ => ⟨S1024x1024, .f32⟩
  | .local _ .vmem, ⟨15, _⟩ => ⟨S1024x1024, .f32⟩
  | .local _ .smem, ⟨0, _⟩ => ⟨S32x3, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v3 : Index := Scalar.indexCast arg0
  let c0 : Index := 0#32
  ![v3.toNat, 0]
def k0_off2 (i : grid0.Coords) : Fin 2 → Nat :=
  let arg0 : BitVec 32 := BitVec.ofNat 32 (i 0).val
  let v5 : Index := Scalar.indexCast arg0
  let c1 : Index := 1#32
  ![v5.toNat, 1]
def k0_off3 (i : grid0.Coords) : Fin 2 → Nat :=
  let arg0 : BitVec 32 := BitVec.ofNat 32 (i 0).val
  let v7 : Index := Scalar.indexCast arg0
  let c2 : Index := 2#32
  ![v7.toNat, 2]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S32x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | _ => none
-- ==== ReferenceIdeal.lean ====
abbrev S32x64x1024 : Shape := ⟨3, ![32, 64, 1024]⟩
abbrev S32x3 : Shape := ⟨2, ![32, 3]⟩
abbrev S1024x2048 : Shape := ⟨2, ![1024, 2048]⟩
abbrev S2048x1024 : Shape := ⟨2, ![2048, 1024]⟩
abbrev S1024x512 : Shape := ⟨2, ![1024, 512]⟩
abbrev S32x2x32x1024 : Shape := ⟨4, ![32, 2, 32, 1024]⟩
abbrev S32x1 : Shape := ⟨2, ![32, 1]⟩
abbrev S32 : Shape := ⟨1, ![32]⟩
abbrev S_ : Shape := ⟨0, ![]⟩
abbrev S32x2x32x512 : Shape := ⟨4, ![32, 2, 32, 512]⟩
abbrev S1x2x32x1024 : Shape := ⟨4, ![1, 2, 32, 1024]⟩
abbrev S2x32x1024 : Shape := ⟨3, ![2, 32, 1024]⟩
abbrev S1 : Shape := ⟨1, ![1]⟩
abbrev S2x32x2048 : Shape := ⟨3, ![2, 32, 2048]⟩
abbrev S2x32x512 : Shape := ⟨3, ![2, 32, 512]⟩
abbrev S64x1024 : Shape := ⟨2, ![64, 1024]⟩
abbrev S64x1x1024 : Shape := ⟨3, ![64, 1, 1024]⟩
abbrev S64x1x2048 : Shape := ⟨3, ![64, 1, 2048]⟩
abbrev S64 : Shape := ⟨1, ![64]⟩
abbrev S1x1024 : Shape := ⟨2, ![1, 1024]⟩
abbrev S1x1x1024 : Shape := ⟨3, ![1, 1, 1024]⟩
abbrev S64x1024x2048 : Shape := ⟨3, ![64, 1024, 2048]⟩
abbrev S64x2048x1024 : Shape := ⟨3, ![64, 2048, 1024]⟩
abbrev S64x2097152 : Shape := ⟨2, ![64, 2097152]⟩
abbrev S64x1x1 : Shape := ⟨3, ![64, 1, 1]⟩
abbrev S1024x1024 : Shape := ⟨2, ![1024, 1024]⟩
abbrev S1x2x32x512 : Shape := ⟨4, ![1, 2, 32, 512]⟩
abbrev S2x32x32x512 : Shape := ⟨4, ![2, 32, 32, 512]⟩

abbrev nBuf : Space → Nat
  | .hbm => 370
  | .vmem => 0
  | .smem => 0
  | _ => 0

abbrev hbmTy0_0 (i : Nat) : BufTy := match i % 128 with
  | 0 => ⟨S32x64x1024, .f32⟩
  | 1 => ⟨S32x64x1024, .f32⟩
  | 2 => ⟨S32x64x1024, .f32⟩
  | 3 => ⟨S32x3, .f32⟩
  | 4 => ⟨S1024x2048, .f32⟩
  | 5 => ⟨S2048x1024, .f32⟩
  | 6 => ⟨S1024x512, .f32⟩
  | 7 => ⟨S32x2x32x1024, .f32⟩
  | 8 => ⟨S32x2x32x1024, .f32⟩
  | 9 => ⟨S32x2x32x1024, .f32⟩
  | 10 => ⟨S32x1, .f32⟩
  | 11 => ⟨S32, .f32⟩
  | 12 => ⟨S32x1, .f32⟩
  | 13 => ⟨S32, .f32⟩
  | 14 => ⟨S32x1, .f32⟩
  | 15 => ⟨S32, .f32⟩
  | 16 => ⟨S_, .f32⟩
  | 17 => ⟨S1024x2048, .f32⟩
  | 18 => ⟨S_, .f32⟩
  | 19 => ⟨S2048x1024, .f32⟩
  | 20 => ⟨S_, .f32⟩
  | 21 => ⟨S32x2x32x512, .f32⟩
  | 22 => ⟨S_, .i32⟩
  | 23 => ⟨S32x2x32x1024, .f32⟩
  | 24 => ⟨S32x2x32x1024, .f32⟩
  | 25 => ⟨S32x2x32x1024, .f32⟩
  | 26 => ⟨S32, .f32⟩
  | 27 => ⟨S32, .f32⟩
  | 28 => ⟨S32, .f32⟩
  | 29 => ⟨S1024x512, .f32⟩
  | 30 => ⟨S_, .i32⟩
  | 31 => ⟨S1024x2048, .f32⟩
  | 32 => ⟨S2048x1024, .f32⟩
  | 33 => ⟨S1024x2048, .f32⟩
  | 34 => ⟨S2048x1024, .f32⟩
  | 35 => ⟨S32x2x32x512, .f32⟩
  | 36 => ⟨S_, .i32⟩
  | 37 => ⟨S_, .i1⟩
  | 38 => ⟨S_, .i32⟩
  | 39 => ⟨S_, .i32⟩
  | 40 => ⟨S_, .i32⟩
  | 41 => ⟨S1x2x32x1024, .f32⟩
  | 42 => ⟨S2x32x1024, .f32⟩
  | 43 => ⟨S_, .i32⟩
  | 44 => ⟨S_, .i32⟩
  | 45 => ⟨S_, .i32⟩
  | 46 => ⟨S1x2x32x1024, .f32⟩
  | 47 => ⟨S2x32x1024, .f32⟩
  | 48 => ⟨S_, .i32⟩
  | 49 => ⟨S_, .i32⟩
  | 50 => ⟨S_, .i32⟩
  | 51 => ⟨S1x2x32x1024, .f32⟩
  | 52 => ⟨S2x32x1024, .f32⟩
  | 53 => ⟨S1, .f32⟩
  | 54 => ⟨S_, .f32⟩
  | 55 => ⟨S1, .f32⟩
  | 56 => ⟨S_, .f32⟩
  | 57 => ⟨S1, .f32⟩
  | 58 => ⟨S_, .f32⟩
  | 59 => ⟨S2x32x2048, .f32⟩
  | 60 => ⟨S_, .f32⟩
  | 61 => ⟨S2x32x2048, .f32⟩
  | 62 => ⟨S2x32x2048, .f32⟩
  | 63 => ⟨S2x32x2048, .f32⟩
  | 64 => ⟨S_, .f32⟩
  | 65 => ⟨S_, .f32⟩
  | 66 => ⟨S2x32x2048, .f32⟩
  | 67 => ⟨S2x32x2048, .f32⟩
  | 68 => ⟨S2x32x2048, .f32⟩
  | 69 => ⟨S2x32x2048, .f32⟩
  | 70 => ⟨S2x32x1024, .f32⟩
  | 71 => ⟨S2x32x512, .f32⟩
  | 72 => ⟨S64x1024, .f32⟩
  | 73 => ⟨S64x1024, .f32⟩
  | 74 => ⟨S64x1x1024, .f32⟩
  | 75 => ⟨S64x1x1024, .f32⟩
  | 76 => ⟨S64x1x2048, .f32⟩
  | 77 => ⟨S_, .f32⟩
  | 78 => ⟨S64x1x2048, .f32⟩
  | 79 => ⟨S64x1x2048, .f32⟩
  | 80 => ⟨S64x1x2048, .f32⟩
  | 81 => ⟨S_, .f32⟩
  | 82 => ⟨S_, .f32⟩
  | 83 => ⟨S64x1x2048, .f32⟩
  | 84 => ⟨S64x1x2048, .f32⟩
  | 85 => ⟨S_, .f32⟩
  | 86 => ⟨S_, .f32⟩
  | 87 => ⟨S_, .f32⟩
  | 88 => ⟨S_, .f32⟩
  | 89 => ⟨S64x1x2048, .f32⟩
  | 90 => ⟨S_, .f32⟩
  | 91 => ⟨S_, .f32⟩
  | 92 => ⟨S64x1x2048, .f32⟩
  | 93 => ⟨S64x1x2048, .f32⟩
  | 94 => ⟨S64x1x2048, .f32⟩
  | 95 => ⟨S64x1x2048, .f32⟩
  | 96 => ⟨S64x1x2048, .f32⟩
  | 97 => ⟨S64x1x2048, .f32⟩
  | 98 => ⟨S64x1x1024, .f32⟩
  | 99 => ⟨S64x1x1024, .f32⟩
  | 100 => ⟨S64x1x1024, .f32⟩
  | 101 => ⟨S_, .f32⟩
  | 102 => ⟨S64x1x1024, .f32⟩
  | 103 => ⟨S64x1x1024, .f32⟩
  | 104 => ⟨S_, .f32⟩
  | 105 => ⟨S64, .f32⟩
  | 106 => ⟨S_, .f32⟩
  | 107 => ⟨S1x1024, .f32⟩
  | 108 => ⟨S1x1x1024, .f32⟩
  | 109 => ⟨S64x1x1024, .f32⟩
  | 110 => ⟨S64x1x1024, .f32⟩
  | 111 => ⟨S64x1024x2048, .f32⟩
  | 112 => ⟨S64x2048x1024, .f32⟩
  | 113 => ⟨S64x1x2048, .f32⟩
  | 114 => ⟨S64x1x2048, .f32⟩
  | 115 => ⟨S64x1x2048, .f32⟩
  | 116 => ⟨S64x1x2048, .f32⟩
  | 117 => ⟨S64x1x2048, .f32⟩
  | 118 => ⟨S64x1x2048, .f32⟩
  | 119 => ⟨S64x1x2048, .f32⟩
  | 120 => ⟨S_, .f32⟩
  | 121 => ⟨S64x1x2048, .f32⟩
  | 122 => ⟨S64x1x2048, .f32⟩
  | 123 => ⟨S64x1x2048, .f32⟩
  | 124 => ⟨S64x2048x1024, .f32⟩
  | 125 => ⟨S64x1024x2048, .f32⟩
  | 126 => ⟨S64x2097152, .f32⟩
  | 127 => ⟨S64x2097152, .f32⟩
  | _ => ⟨S32x64x1024, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S64x1x1, .f32⟩
  | 13 => ⟨S64x1024x2048, .f32⟩
  | 14 => ⟨S64x1024x2048, .f32⟩
  | 15 => ⟨S_, .f32⟩
  | 16 => ⟨S1024x2048, .f32⟩
  | 17 => ⟨S_, .f32⟩
  | 18 => ⟨S1024x2048, .f32⟩
  | 19 => ⟨S1024x2048, .f32⟩
  | 20 => ⟨S64x2097152, .f32⟩
  | 21 => ⟨S64x2097152, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S64x1x1, .f32⟩
  | 35 => ⟨S64x2048x1024, .f32⟩
  | 36 => ⟨S64x2048x1024, .f32⟩
  | 37 => ⟨S_, .f32⟩
  | 38 => ⟨S2048x1024, .f32⟩
  | 39 => ⟨S_, .f32⟩
  | 40 => ⟨S2048x1024, .f32⟩
  | 41 => ⟨S2048x1024, .f32⟩
  | 42 => ⟨S1024x2048, .f32⟩
  | 43 => ⟨S1024x2048, .f32⟩
  | 44 => ⟨S1024x2048, .f32⟩
  | 45 => ⟨S1024x2048, .f32⟩
  | 46 => ⟨S1024x2048, .f32⟩
  | 47 => ⟨S2048x1024, .f32⟩
  | 48 => ⟨S2048x1024, .f32⟩
  | 49 => ⟨S2048x1024, .f32⟩
  | 50 => ⟨S2048x1024, .f32⟩
  | 51 => ⟨S2048x1024, .f32⟩
  | 52 => ⟨S_, .f32⟩
  | 53 => ⟨S_, .f32⟩
  | 54 => ⟨S1024x2048, .f32⟩
  | 55 => ⟨S1024x2048, .f32⟩
  | 56 => ⟨S1024x2048, .f32⟩
  | 57 => ⟨S_, .f32⟩
  | 58 => ⟨S_, .f32⟩
  | 59 => ⟨S_, .f32⟩
  | 60 => ⟨S_, .f32⟩
  | 61 => ⟨S_, .f32⟩
  | 62 => ⟨S1024x2048, .f32⟩
  | 63 => ⟨S1024x2048, .f32⟩
  | 64 => ⟨S2048x1024, .f32⟩
  | 65 => ⟨S1024x1024, .f32⟩
  | 66 => ⟨S_, .f32⟩
  | 67 => ⟨S1024x1024, .f32⟩
  | 68 => ⟨S1024x1024, .f32⟩
  | 69 => ⟨S1024x1024, .f32⟩
  | 70 => ⟨S_, .f32⟩
  | 71 => ⟨S1024x1024, .f32⟩
  | 72 => ⟨S1024x1024, .f32⟩
  | 73 => ⟨S1024x1024, .f32⟩
  | 74 => ⟨S_, .f32⟩
  | 75 => ⟨S1024x2048, .f32⟩
  | 76 => ⟨S1024x2048, .f32⟩
  | 77 => ⟨S1024x2048, .f32⟩
  | 78 => ⟨S1024x2048, .f32⟩
  | 79 => ⟨S2048x1024, .f32⟩
  | 80 => ⟨S1024x1024, .f32⟩
  | 81 => ⟨S_, .f32⟩
  | 82 => ⟨S1024x1024, .f32⟩
  | 83 => ⟨S1024x1024, .f32⟩
  | 84 => ⟨S1024x1024, .f32⟩
  | 85 => ⟨S_, .f32⟩
  | 86 => ⟨S1024x1024, .f32⟩
  | 87 => ⟨S1024x1024, .f32⟩
  | 88 => ⟨S1024x1024, .f32⟩
  | 89 => ⟨S_, .f32⟩
  | 90 => ⟨S1024x2048, .f32⟩
  | 91 => ⟨S1024x2048, .f32⟩
  | 92 => ⟨S1024x2048, .f32⟩
  | 93 => ⟨S1024x2048, .f32⟩
  | 94 => ⟨S2048x1024, .f32⟩
  | 95 => ⟨S1024x1024, .f32⟩
  | 96 => ⟨S_, .f32⟩
  | 97 => ⟨S1024x1024, .f32⟩
  | 98 => ⟨S1024x1024, .f32⟩
  | 99 => ⟨S1024x1024, .f32⟩
  | 100 => ⟨S_, .f32⟩
  | 101 => ⟨S1024x1024, .f32⟩
  | 102 => ⟨S1024x1024, .f32⟩
  | 103 => ⟨S1024x1024, .f32⟩
  | 104 => ⟨S_, .f32⟩
  | 105 => ⟨S1024x2048, .f32⟩
  | 106 => ⟨S1024x2048, .f32⟩
  | 107 => ⟨S1024x2048, .f32⟩
  | 108 => ⟨S1024x2048, .f32⟩
  | 109 => ⟨S2048x1024, .f32⟩
  | 110 => ⟨S1024x1024, .f32⟩
  | 111 => ⟨S_, .f32⟩
  | 112 => ⟨S1024x1024, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S1024x1024, .f32⟩
  | 119 => ⟨S_, .f32⟩
  | 120 => ⟨S1024x2048, .f32⟩
  | 121 => ⟨S1024x2048, .f32⟩
  | 122 => ⟨S1024x2048, .f32⟩
  | 123 => ⟨S1024x2048, .f32⟩
  | 124 => ⟨S2048x1024, .f32⟩
  | 125 => ⟨S1024x1024, .f32⟩
  | 126 => ⟨S_, .f32⟩
  | 127 => ⟨S1024x1024, .f32⟩
  | _ => ⟨S32x64x1024, .f32⟩

abbrev hbmTy0_2 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S1024x1024, .f32⟩
  | 6 => ⟨S_, .f32⟩
  | 7 => ⟨S1024x2048, .f32⟩
  | 8 => ⟨S1024x2048, .f32⟩
  | 9 => ⟨S1024x2048, .f32⟩
  | 10 => ⟨S1024x2048, .f32⟩
  | 11 => ⟨S1024x2048, .f32⟩
  | 12 => ⟨S1024x2048, .f32⟩
  | 13 => ⟨S1024x2048, .f32⟩
  | 14 => ⟨S_, .f32⟩
  | 15 => ⟨S_, .f32⟩
  | 16 => ⟨S2048x1024, .f32⟩
  | 17 => ⟨S2048x1024, .f32⟩
  | 18 => ⟨S1024x2048, .f32⟩
  | 19 => ⟨S1024x2048, .f32⟩
  | 20 => ⟨S_, .f32⟩
  | 21 => ⟨S_, .f32⟩
  | 22 => ⟨S_, .f32⟩
  | 23 => ⟨S_, .f32⟩
  | 24 => ⟨S_, .f32⟩
  | 25 => ⟨S1024x2048, .f32⟩
  | 26 => ⟨S1024x2048, .f32⟩
  | 27 => ⟨S2048x1024, .f32⟩
  | 28 => ⟨S1024x1024, .f32⟩
  | 29 => ⟨S_, .f32⟩
  | 30 => ⟨S1024x1024, .f32⟩
  | 31 => ⟨S1024x1024, .f32⟩
  | 32 => ⟨S1024x1024, .f32⟩
  | 33 => ⟨S_, .f32⟩
  | 34 => ⟨S1024x1024, .f32⟩
  | 35 => ⟨S1024x1024, .f32⟩
  | 36 => ⟨S1024x1024, .f32⟩
  | 37 => ⟨S_, .f32⟩
  | 38 => ⟨S1024x2048, .f32⟩
  | 39 => ⟨S1024x2048, .f32⟩
  | 40 => ⟨S1024x2048, .f32⟩
  | 41 => ⟨S1024x2048, .f32⟩
  | 42 => ⟨S2048x1024, .f32⟩
  | 43 => ⟨S1024x1024, .f32⟩
  | 44 => ⟨S_, .f32⟩
  | 45 => ⟨S1024x1024, .f32⟩
  | 46 => ⟨S1024x1024, .f32⟩
  | 47 => ⟨S1024x1024, .f32⟩
  | 48 => ⟨S_, .f32⟩
  | 49 => ⟨S1024x1024, .f32⟩
  | 50 => ⟨S1024x1024, .f32⟩
  | 51 => ⟨S1024x1024, .f32⟩
  | 52 => ⟨S_, .f32⟩
  | 53 => ⟨S1024x2048, .f32⟩
  | 54 => ⟨S1024x2048, .f32⟩
  | 55 => ⟨S1024x2048, .f32⟩
  | 56 => ⟨S1024x2048, .f32⟩
  | 57 => ⟨S2048x1024, .f32⟩
  | 58 => ⟨S1024x1024, .f32⟩
  | 59 => ⟨S_, .f32⟩
  | 60 => ⟨S1024x1024, .f32⟩
  | 61 => ⟨S1024x1024, .f32⟩
  | 62 => ⟨S1024x1024, .f32⟩
  | 63 => ⟨S_, .f32⟩
  | 64 => ⟨S1024x1024, .f32⟩
  | 65 => ⟨S1024x1024, .f32⟩
  | 66 => ⟨S1024x1024, .f32⟩
  | 67 => ⟨S_, .f32⟩
  | 68 => ⟨S1024x2048, .f32⟩
  | 69 => ⟨S1024x2048, .f32⟩
  | 70 => ⟨S1024x2048, .f32⟩
  | 71 => ⟨S1024x2048, .f32⟩
  | 72 => ⟨S2048x1024, .f32⟩
  | 73 => ⟨S1024x1024, .f32⟩
  | 74 => ⟨S_, .f32⟩
  | 75 => ⟨S1024x1024, .f32⟩
  | 76 => ⟨S1024x1024, .f32⟩
  | 77 => ⟨S1024x1024, .f32⟩
  | 78 => ⟨S_, .f32⟩
  | 79 => ⟨S1024x1024, .f32⟩
  | 80 => ⟨S1024x1024, .f32⟩
  | 81 => ⟨S1024x1024, .f32⟩
  | 82 => ⟨S_, .f32⟩
  | 83 => ⟨S1024x2048, .f32⟩
  | 84 => ⟨S1024x2048, .f32⟩
  | 85 => ⟨S1024x2048, .f32⟩
  | 86 => ⟨S1024x2048, .f32⟩
  | 87 => ⟨S2048x1024, .f32⟩
  | 88 => ⟨S1024x1024, .f32⟩
  | 89 => ⟨S_, .f32⟩
  | 90 => ⟨S1024x1024, .f32⟩
  | 91 => ⟨S1024x1024, .f32⟩
  | 92 => ⟨S1024x1024, .f32⟩
  | 93 => ⟨S_, .f32⟩
  | 94 => ⟨S1024x1024, .f32⟩
  | 95 => ⟨S1024x1024, .f32⟩
  | 96 => ⟨S1024x1024, .f32⟩
  | 97 => ⟨S_, .f32⟩
  | 98 => ⟨S1024x2048, .f32⟩
  | 99 => ⟨S1024x2048, .f32⟩
  | 100 => ⟨S1024x2048, .f32⟩
  | 101 => ⟨S1024x2048, .f32⟩
  | 102 => ⟨S2048x1024, .f32⟩
  | 103 => ⟨S2048x1024, .f32⟩
  | 104 => ⟨S2048x1024, .f32⟩
  | 105 => ⟨S2048x1024, .f32⟩
  | 106 => ⟨S1x2x32x512, .f32⟩
  | 107 => ⟨S_, .i32⟩
  | 108 => ⟨S_, .i32⟩
  | 109 => ⟨S_, .i32⟩
  | 110 => ⟨S32x2x32x512, .f32⟩
  | 111 => ⟨S_, .i32⟩
  | 112 => ⟨S_, .i32⟩
  | 113 => ⟨S2x32x32x512, .f32⟩
  | _ => ⟨S32x64x1024, .f32⟩

abbrev hbmTy (i : Nat) : BufTy := match i / 128 with
  | 0 => hbmTy0_0 i
  | 1 => hbmTy0_1 i
  | 2 => hbmTy0_2 i
  | _ => ⟨S32x64x1024, .f32⟩

abbrev bufTy : (tb : Table) → Fin (tcTables nBuf tb) → BufTy
  | .hbm, ⟨i, _⟩ => hbmTy i
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_c : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v12_5 : Ref sig .tc := ⟨.hbm, 28, rfl⟩
abbrev main_v12_6 : Ref sig .tc := ⟨.hbm, 29, rfl⟩
abbrev main_v12_7 : Ref sig .tc := ⟨.hbm, 30, rfl⟩
abbrev main_v12_8 : Ref sig .tc := ⟨.hbm, 31, rfl⟩
abbrev main_v12_9 : Ref sig .tc := ⟨.hbm, 32, rfl⟩
abbrev main_v12_10 : Ref sig .tc := ⟨.hbm, 33, rfl⟩
abbrev main_v12_11 : Ref sig .tc := ⟨.hbm, 34, rfl⟩
abbrev main_v12_12 : Ref sig .tc := ⟨.hbm, 35, rfl⟩
abbrev main_while0c_c_14 : Ref sig .tc := ⟨.hbm, 36, rfl⟩
abbrev main_while0c_v14 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_v0 : Ref sig .tc := ⟨.hbm, 41, rfl⟩
abbrev main_while0b_v14 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_v0 : Ref sig .tc := ⟨.hbm, 46, rfl⟩
abbrev main_while0b_v15 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_c_1 : Ref sig .tc := ⟨.hbm, 50, rfl⟩
abbrev main_while0b_call2_v0 : Ref sig .tc := ⟨.hbm, 51, rfl⟩
abbrev main_while0b_v16 : Ref sig .tc := ⟨.hbm, 52, rfl⟩
abbrev main_while0b_call3_v0 : Ref sig .tc := ⟨.hbm, 53, rfl⟩
abbrev main_while0b_v17 : Ref sig .tc := ⟨.hbm, 54, rfl⟩
abbrev main_while0b_call4_v0 : Ref sig .tc := ⟨.hbm, 55, rfl⟩
abbrev main_while0b_v18 : Ref sig .tc := ⟨.hbm, 56, rfl⟩
abbrev main_while0b_call5_v0 : Ref sig .tc := ⟨.hbm, 57, rfl⟩
abbrev main_while0b_v19 : Ref sig .tc := ⟨.hbm, 58, rfl⟩
abbrev main_while0b_v20 : Ref sig .tc := ⟨.hbm, 59, rfl⟩
abbrev main_while0b_cst_14 : Ref sig .tc := ⟨.hbm, 60, rfl⟩
abbrev main_while0b_v21 : Ref sig .tc := ⟨.hbm, 61, rfl⟩
abbrev main_while0b_v22 : Ref sig .tc := ⟨.hbm, 62, rfl⟩
abbrev main_while0b_v23 : Ref sig .tc := ⟨.hbm, 63, rfl⟩
abbrev main_while0b_cst_15 : Ref sig .tc := ⟨.hbm, 64, rfl⟩
abbrev main_while0b_v24 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_cst_16 : Ref sig .tc := ⟨.hbm, 77, rfl⟩
abbrev main_while0b_v36 : Ref sig .tc := ⟨.hbm, 78, rfl⟩
abbrev main_while0b_v37 : Ref sig .tc := ⟨.hbm, 79, rfl⟩
abbrev main_while0b_v38 : Ref sig .tc := ⟨.hbm, 80, rfl⟩
abbrev main_while0b_cst_17 : Ref sig .tc := ⟨.hbm, 81, rfl⟩
abbrev main_while0b_v39 : Ref sig .tc := ⟨.hbm, 82, rfl⟩
abbrev main_while0b_v40 : Ref sig .tc := ⟨.hbm, 83, rfl⟩
abbrev main_while0b_v41 : Ref sig .tc := ⟨.hbm, 84, rfl⟩
abbrev main_while0b_cst_18 : Ref sig .tc := ⟨.hbm, 85, rfl⟩
abbrev main_while0b_cst_19 : Ref sig .tc := ⟨.hbm, 86, rfl⟩
abbrev main_while0b_v42 : Ref sig .tc := ⟨.hbm, 87, rfl⟩
abbrev main_while0b_v43 : Ref sig .tc := ⟨.hbm, 88, rfl⟩
abbrev main_while0b_v44 : Ref sig .tc := ⟨.hbm, 89, rfl⟩
abbrev main_while0b_cst_20 : Ref sig .tc := ⟨.hbm, 90, rfl⟩
abbrev main_while0b_v45 : Ref sig .tc := ⟨.hbm, 91, rfl⟩
abbrev main_while0b_v46 : Ref sig .tc := ⟨.hbm, 92, rfl⟩
abbrev main_while0b_v47 : Ref sig .tc := ⟨.hbm, 93, rfl⟩
abbrev main_while0b_v48 : Ref sig .tc := ⟨.hbm, 94, rfl⟩
abbrev main_while0b_v49 : Ref sig .tc := ⟨.hbm, 95, rfl⟩
abbrev main_while0b_v50 : Ref sig .tc := ⟨.hbm, 96, rfl⟩
abbrev main_while0b_v51 : Ref sig .tc := ⟨.hbm, 97, rfl⟩
abbrev main_while0b_v52 : Ref sig .tc := ⟨.hbm, 98, rfl⟩
abbrev main_while0b_v53 : Ref sig .tc := ⟨.hbm, 99, rfl⟩
abbrev main_while0b_v54 : Ref sig .tc := ⟨.hbm, 100, rfl⟩
abbrev main_while0b_cst_21 : Ref sig .tc := ⟨.hbm, 101, rfl⟩
abbrev main_while0b_v55 : Ref sig .tc := ⟨.hbm, 102, rfl⟩
abbrev main_while0b_v56 : Ref sig .tc := ⟨.hbm, 103, rfl⟩
abbrev main_while0b_cst_22 : Ref sig .tc := ⟨.hbm, 104, rfl⟩
abbrev main_while0b_v57 : Ref sig .tc := ⟨.hbm, 105, rfl⟩
abbrev main_while0b_cst_23 : Ref sig .tc := ⟨.hbm, 106, rfl⟩
abbrev main_while0b_v58 : Ref sig .tc := ⟨.hbm, 107, rfl⟩
abbrev main_while0b_v59 : Ref sig .tc := ⟨.hbm, 108, rfl⟩
abbrev main_while0b_v60 : Ref sig .tc := ⟨.hbm, 109, rfl⟩
abbrev main_while0b_v61 : Ref sig .tc := ⟨.hbm, 110, rfl⟩
abbrev main_while0b_v62 : Ref sig .tc := ⟨.hbm, 111, rfl⟩
abbrev main_while0b_v63 : Ref sig .tc := ⟨.hbm, 112, rfl⟩
abbrev main_while0b_v64 : Ref sig .tc := ⟨.hbm, 113, rfl⟩
abbrev main_while0b_v65 : Ref sig .tc := ⟨.hbm, 114, rfl⟩
abbrev main_while0b_v66 : Ref sig .tc := ⟨.hbm, 115, rfl⟩
abbrev main_while0b_v67 : Ref sig .tc := ⟨.hbm, 116, rfl⟩
abbrev main_while0b_v68 : Ref sig .tc := ⟨.hbm, 117, rfl⟩
abbrev main_while0b_v69 : Ref sig .tc := ⟨.hbm, 118, rfl⟩
abbrev main_while0b_v70 : Ref sig .tc := ⟨.hbm, 119, rfl⟩
abbrev main_while0b_cst_24 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_call6_v0 : Ref sig .tc := ⟨.hbm, 127, rfl⟩
abbrev main_while0b_call6_cst : Ref sig .tc := ⟨.hbm, 128, rfl⟩
abbrev main_while0b_call6_v1 : Ref sig .tc := ⟨.hbm, 129, rfl⟩
abbrev main_while0b_v77 : Ref sig .tc := ⟨.hbm, 130, rfl⟩
abbrev main_while0b_cst_25 : Ref sig .tc := ⟨.hbm, 131, rfl⟩
abbrev main_while0b_v78 : Ref sig .tc := ⟨.hbm, 132, rfl⟩
abbrev main_while0b_v79 : Ref sig .tc := ⟨.hbm, 133, rfl⟩
abbrev main_while0b_cst_26 : Ref sig .tc := ⟨.hbm, 134, rfl⟩
abbrev main_while0b_v80 : Ref sig .tc := ⟨.hbm, 135, rfl⟩
abbrev main_while0b_v81 : Ref sig .tc := ⟨.hbm, 136, rfl⟩
abbrev main_while0b_cst_27 : Ref sig .tc := ⟨.hbm, 137, rfl⟩
abbrev main_while0b_v82 : Ref sig .tc := ⟨.hbm, 138, rfl⟩
abbrev main_while0b_v83 : Ref sig .tc := ⟨.hbm, 139, rfl⟩
abbrev main_while0b_v84 : Ref sig .tc := ⟨.hbm, 140, rfl⟩
abbrev main_while0b_v85 : Ref sig .tc := ⟨.hbm, 141, rfl⟩
abbrev main_while0b_v86 : Ref sig .tc := ⟨.hbm, 142, rfl⟩
abbrev main_while0b_cst_28 : Ref sig .tc := ⟨.hbm, 143, rfl⟩
abbrev main_while0b_v87 : Ref sig .tc := ⟨.hbm, 144, rfl⟩
abbrev main_while0b_cst_29 : Ref sig .tc := ⟨.hbm, 145, rfl⟩
abbrev main_while0b_v88 : Ref sig .tc := ⟨.hbm, 146, rfl⟩
abbrev main_while0b_v89 : Ref sig .tc := ⟨.hbm, 147, rfl⟩
abbrev main_while0b_v90 : Ref sig .tc := ⟨.hbm, 148, rfl⟩
abbrev main_while0b_call7_v0 : Ref sig .tc := ⟨.hbm, 149, rfl⟩
abbrev main_while0b_call7_cst : Ref sig .tc := ⟨.hbm, 150, rfl⟩
abbrev main_while0b_call7_v1 : Ref sig .tc := ⟨.hbm, 151, rfl⟩
abbrev main_while0b_v91 : Ref sig .tc := ⟨.hbm, 152, rfl⟩
abbrev main_while0b_cst_30 : Ref sig .tc := ⟨.hbm, 153, rfl⟩
abbrev main_while0b_v92 : Ref sig .tc := ⟨.hbm, 154, rfl⟩
abbrev main_while0b_v93 : Ref sig .tc := ⟨.hbm, 155, rfl⟩
abbrev main_while0b_cst_31 : Ref sig .tc := ⟨.hbm, 156, rfl⟩
abbrev main_while0b_v94 : Ref sig .tc := ⟨.hbm, 157, rfl⟩
abbrev main_while0b_v95 : Ref sig .tc := ⟨.hbm, 158, rfl⟩
abbrev main_while0b_cst_32 : Ref sig .tc := ⟨.hbm, 159, rfl⟩
abbrev main_while0b_v96 : Ref sig .tc := ⟨.hbm, 160, rfl⟩
abbrev main_while0b_v97 : Ref sig .tc := ⟨.hbm, 161, rfl⟩
abbrev main_while0b_v98 : Ref sig .tc := ⟨.hbm, 162, rfl⟩
abbrev main_while0b_v99 : Ref sig .tc := ⟨.hbm, 163, rfl⟩
abbrev main_while0b_v100 : Ref sig .tc := ⟨.hbm, 164, rfl⟩
abbrev main_while0b_cst_33 : Ref sig .tc := ⟨.hbm, 165, rfl⟩
abbrev main_while0b_v101 : Ref sig .tc := ⟨.hbm, 166, rfl⟩
abbrev main_while0b_cst_34 : Ref sig .tc := ⟨.hbm, 167, rfl⟩
abbrev main_while0b_v102 : Ref sig .tc := ⟨.hbm, 168, rfl⟩
abbrev main_while0b_v103 : Ref sig .tc := ⟨.hbm, 169, rfl⟩
abbrev main_while0b_v104 : Ref sig .tc := ⟨.hbm, 170, rfl⟩
abbrev main_while0b_v105 : Ref sig .tc := ⟨.hbm, 171, rfl⟩
abbrev main_while0b_v106 : Ref sig .tc := ⟨.hbm, 172, rfl⟩
abbrev main_while0b_v107 : Ref sig .tc := ⟨.hbm, 173, rfl⟩
abbrev main_while0b_v108 : Ref sig .tc := ⟨.hbm, 174, rfl⟩
abbrev main_while0b_v109 : Ref sig .tc := ⟨.hbm, 175, rfl⟩
abbrev main_while0b_v110 : Ref sig .tc := ⟨.hbm, 176, rfl⟩
abbrev main_while0b_v111 : Ref sig .tc := ⟨.hbm, 177, rfl⟩
abbrev main_while0b_v112 : Ref sig .tc := ⟨.hbm, 178, rfl⟩
abbrev main_while0b_v113 : Ref sig .tc := ⟨.hbm, 179, rfl⟩
abbrev main_while0b_cst_35 : Ref sig .tc := ⟨.hbm, 180, rfl⟩
abbrev main_while0b_v114 : Ref sig .tc := ⟨.hbm, 181, rfl⟩
abbrev main_while0b_v115 : Ref sig .tc := ⟨.hbm, 182, rfl⟩
abbrev main_while0b_v116 : Ref sig .tc := ⟨.hbm, 183, rfl⟩
abbrev main_while0b_call8_v0 : Ref sig .tc := ⟨.hbm, 184, rfl⟩
abbrev main_while0b_call8_cst : Ref sig .tc := ⟨.hbm, 185, rfl⟩
abbrev main_while0b_call8_v1 : Ref sig .tc := ⟨.hbm, 186, rfl⟩
abbrev main_while0b_v117 : Ref sig .tc := ⟨.hbm, 187, rfl⟩
abbrev main_while0b_cst_36 : Ref sig .tc := ⟨.hbm, 188, rfl⟩
abbrev main_while0b_v118 : Ref sig .tc := ⟨.hbm, 189, rfl⟩
abbrev main_while0b_v119 : Ref sig .tc := ⟨.hbm, 190, rfl⟩
abbrev main_while0b_v120 : Ref sig .tc := ⟨.hbm, 191, rfl⟩
abbrev main_while0b_v121 : Ref sig .tc := ⟨.hbm, 192, rfl⟩
abbrev main_while0b_v122 : Ref sig .tc := ⟨.hbm, 193, rfl⟩
abbrev main_while0b_cst_37 : Ref sig .tc := ⟨.hbm, 194, rfl⟩
abbrev main_while0b_v123 : Ref sig .tc := ⟨.hbm, 195, rfl⟩
abbrev main_while0b_v124 : Ref sig .tc := ⟨.hbm, 196, rfl⟩
abbrev main_while0b_v125 : Ref sig .tc := ⟨.hbm, 197, rfl⟩
abbrev main_while0b_cst_38 : Ref sig .tc := ⟨.hbm, 198, rfl⟩
abbrev main_while0b_v126 : Ref sig .tc := ⟨.hbm, 199, rfl⟩
abbrev main_while0b_v127 : Ref sig .tc := ⟨.hbm, 200, rfl⟩
abbrev main_while0b_v128 : Ref sig .tc := ⟨.hbm, 201, rfl⟩
abbrev main_while0b_cst_39 : Ref sig .tc := ⟨.hbm, 202, rfl⟩
abbrev main_while0b_v129 : Ref sig .tc := ⟨.hbm, 203, rfl⟩
abbrev main_while0b_v130 : Ref sig .tc := ⟨.hbm, 204, rfl⟩
abbrev main_while0b_v131 : Ref sig .tc := ⟨.hbm, 205, rfl⟩
abbrev main_while0b_v132 : Ref sig .tc := ⟨.hbm, 206, rfl⟩
abbrev main_while0b_v133 : Ref sig .tc := ⟨.hbm, 207, rfl⟩
abbrev main_while0b_v134 : Ref sig .tc := ⟨.hbm, 208, rfl⟩
abbrev main_while0b_cst_40 : Ref sig .tc := ⟨.hbm, 209, rfl⟩
abbrev main_while0b_v135 : Ref sig .tc := ⟨.hbm, 210, rfl⟩
abbrev main_while0b_v136 : Ref sig .tc := ⟨.hbm, 211, rfl⟩
abbrev main_while0b_v137 : Ref sig .tc := ⟨.hbm, 212, rfl⟩
abbrev main_while0b_cst_41 : Ref sig .tc := ⟨.hbm, 213, rfl⟩
abbrev main_while0b_v138 : Ref sig .tc := ⟨.hbm, 214, rfl⟩
abbrev main_while0b_v139 : Ref sig .tc := ⟨.hbm, 215, rfl⟩
abbrev main_while0b_v140 : Ref sig .tc := ⟨.hbm, 216, rfl⟩
abbrev main_while0b_cst_42 : Ref sig .tc := ⟨.hbm, 217, rfl⟩
abbrev main_while0b_v141 : Ref sig .tc := ⟨.hbm, 218, rfl⟩
abbrev main_while0b_v142 : Ref sig .tc := ⟨.hbm, 219, rfl⟩
abbrev main_while0b_v143 : Ref sig .tc := ⟨.hbm, 220, rfl⟩
abbrev main_while0b_v144 : Ref sig .tc := ⟨.hbm, 221, rfl⟩
abbrev main_while0b_v145 : Ref sig .tc := ⟨.hbm, 222, rfl⟩
abbrev main_while0b_v146 : Ref sig .tc := ⟨.hbm, 223, rfl⟩
abbrev main_while0b_cst_43 : Ref sig .tc := ⟨.hbm, 224, rfl⟩
abbrev main_while0b_v147 : Ref sig .tc := ⟨.hbm, 225, rfl⟩
abbrev main_while0b_v148 : Ref sig .tc := ⟨.hbm, 226, rfl⟩
abbrev main_while0b_v149 : Ref sig .tc := ⟨.hbm, 227, rfl⟩
abbrev main_while0b_cst_44 : Ref sig .tc := ⟨.hbm, 228, rfl⟩
abbrev main_while0b_v150 : Ref sig .tc := ⟨.hbm, 229, rfl⟩
abbrev main_while0b_v151 : Ref sig .tc := ⟨.hbm, 230, rfl⟩
abbrev main_while0b_v152 : Ref sig .tc := ⟨.hbm, 231, rfl⟩
abbrev main_while0b_cst_45 : Ref sig .tc := ⟨.hbm, 232, rfl⟩
abbrev main_while0b_v153 : Ref sig .tc := ⟨.hbm, 233, rfl⟩
abbrev main_while0b_v154 : Ref sig .tc := ⟨.hbm, 234, rfl⟩
abbrev main_while0b_v155 : Ref sig .tc := ⟨.hbm, 235, rfl⟩
abbrev main_while0b_v156 : Ref sig .tc := ⟨.hbm, 236, rfl⟩
abbrev main_while0b_v157 : Ref sig .tc := ⟨.hbm, 237, rfl⟩
abbrev main_while0b_v158 : Ref sig .tc := ⟨.hbm, 238, rfl⟩
abbrev main_while0b_cst_46 : Ref sig .tc := ⟨.hbm, 239, rfl⟩
abbrev main_while0b_v159 : Ref sig .tc := ⟨.hbm, 240, rfl⟩
abbrev main_while0b_v160 : Ref sig .tc := ⟨.hbm, 241, rfl⟩
abbrev main_while0b_v161 : Ref sig .tc := ⟨.hbm, 242, rfl⟩
abbrev main_while0b_cst_47 : Ref sig .tc := ⟨.hbm, 243, rfl⟩
abbrev main_while0b_v162 : Ref sig .tc := ⟨.hbm, 244, rfl⟩
abbrev main_while0b_v163 : Ref sig .tc := ⟨.hbm, 245, rfl⟩
abbrev main_while0b_v164 : Ref sig .tc := ⟨.hbm, 246, rfl⟩
abbrev main_while0b_cst_48 : Ref sig .tc := ⟨.hbm, 247, rfl⟩
abbrev main_while0b_v165 : Ref sig .tc := ⟨.hbm, 248, rfl⟩
abbrev main_while0b_v166 : Ref sig .tc := ⟨.hbm, 249, rfl⟩
abbrev main_while0b_v167 : Ref sig .tc := ⟨.hbm, 250, rfl⟩
abbrev main_while0b_v168 : Ref sig .tc := ⟨.hbm, 251, rfl⟩
abbrev main_while0b_v169 : Ref sig .tc := ⟨.hbm, 252, rfl⟩
abbrev main_while0b_v170 : Ref sig .tc := ⟨.hbm, 253, rfl⟩
abbrev main_while0b_cst_49 : Ref sig .tc := ⟨.hbm, 254, rfl⟩
abbrev main_while0b_v171 : Ref sig .tc := ⟨.hbm, 255, rfl⟩
abbrev main_while0b_v172 : Ref sig .tc := ⟨.hbm, 256, rfl⟩
abbrev main_while0b_v173 : Ref sig .tc := ⟨.hbm, 257, rfl⟩
abbrev main_while0b_cst_50 : Ref sig .tc := ⟨.hbm, 258, rfl⟩
abbrev main_while0b_v174 : Ref sig .tc := ⟨.hbm, 259, rfl⟩
abbrev main_while0b_v175 : Ref sig .tc := ⟨.hbm, 260, rfl⟩
abbrev main_while0b_v176 : Ref sig .tc := ⟨.hbm, 261, rfl⟩
abbrev main_while0b_cst_51 : Ref sig .tc := ⟨.hbm, 262, rfl⟩
abbrev main_while0b_v177 : Ref sig .tc := ⟨.hbm, 263, rfl⟩
abbrev main_while0b_v178 : Ref sig .tc := ⟨.hbm, 264, rfl⟩
abbrev main_while0b_v179 : Ref sig .tc := ⟨.hbm, 265, rfl⟩
abbrev main_while0b_v180 : Ref sig .tc := ⟨.hbm, 266, rfl⟩
abbrev main_while0b_v181 : Ref sig .tc := ⟨.hbm, 267, rfl⟩
abbrev main_while0b_v182 : Ref sig .tc := ⟨.hbm, 268, rfl⟩
abbrev main_while0b_v183 : Ref sig .tc := ⟨.hbm, 269, rfl⟩
abbrev main_while0b_cst_52 : Ref sig .tc := ⟨.hbm, 270, rfl⟩
abbrev main_while0b_v184 : Ref sig .tc := ⟨.hbm, 271, rfl⟩
abbrev main_while0b_v185 : Ref sig .tc := ⟨.hbm, 272, rfl⟩
abbrev main_while0b_v186 : Ref sig .tc := ⟨.hbm, 273, rfl⟩
abbrev main_while0b_v187 : Ref sig .tc := ⟨.hbm, 274, rfl⟩
abbrev main_while0b_call9_v0 : Ref sig .tc := ⟨.hbm, 275, rfl⟩
abbrev main_while0b_call9_cst : Ref sig .tc := ⟨.hbm, 276, rfl⟩
abbrev main_while0b_call9_v1 : Ref sig .tc := ⟨.hbm, 277, rfl⟩
abbrev main_while0b_v188 : Ref sig .tc := ⟨.hbm, 278, rfl⟩
abbrev main_while0b_cst_53 : Ref sig .tc := ⟨.hbm, 279, rfl⟩
abbrev main_while0b_v189 : Ref sig .tc := ⟨.hbm, 280, rfl⟩
abbrev main_while0b_v190 : Ref sig .tc := ⟨.hbm, 281, rfl⟩
abbrev main_while0b_v191 : Ref sig .tc := ⟨.hbm, 282, rfl⟩
abbrev main_while0b_v192 : Ref sig .tc := ⟨.hbm, 283, rfl⟩
abbrev main_while0b_v193 : Ref sig .tc := ⟨.hbm, 284, rfl⟩
abbrev main_while0b_cst_54 : Ref sig .tc := ⟨.hbm, 285, rfl⟩
abbrev main_while0b_v194 : Ref sig .tc := ⟨.hbm, 286, rfl⟩
abbrev main_while0b_v195 : Ref sig .tc := ⟨.hbm, 287, rfl⟩
abbrev main_while0b_v196 : Ref sig .tc := ⟨.hbm, 288, rfl⟩
abbrev main_while0b_cst_55 : Ref sig .tc := ⟨.hbm, 289, rfl⟩
abbrev main_while0b_v197 : Ref sig .tc := ⟨.hbm, 290, rfl⟩
abbrev main_while0b_v198 : Ref sig .tc := ⟨.hbm, 291, rfl⟩
abbrev main_while0b_v199 : Ref sig .tc := ⟨.hbm, 292, rfl⟩
abbrev main_while0b_cst_56 : Ref sig .tc := ⟨.hbm, 293, rfl⟩
abbrev main_while0b_v200 : Ref sig .tc := ⟨.hbm, 294, rfl⟩
abbrev main_while0b_v201 : Ref sig .tc := ⟨.hbm, 295, rfl⟩
abbrev main_while0b_v202 : Ref sig .tc := ⟨.hbm, 296, rfl⟩
abbrev main_while0b_v203 : Ref sig .tc := ⟨.hbm, 297, rfl⟩
abbrev main_while0b_v204 : Ref sig .tc := ⟨.hbm, 298, rfl⟩
abbrev main_while0b_v205 : Ref sig .tc := ⟨.hbm, 299, rfl⟩
abbrev main_while0b_cst_57 : Ref sig .tc := ⟨.hbm, 300, rfl⟩
abbrev main_while0b_v206 : Ref sig .tc := ⟨.hbm, 301, rfl⟩
abbrev main_while0b_v207 : Ref sig .tc := ⟨.hbm, 302, rfl⟩
abbrev main_while0b_v208 : Ref sig .tc := ⟨.hbm, 303, rfl⟩
abbrev main_while0b_cst_58 : Ref sig .tc := ⟨.hbm, 304, rfl⟩
abbrev main_while0b_v209 : Ref sig .tc := ⟨.hbm, 305, rfl⟩
abbrev main_while0b_v210 : Ref sig .tc := ⟨.hbm, 306, rfl⟩
abbrev main_while0b_v211 : Ref sig .tc := ⟨.hbm, 307, rfl⟩
abbrev main_while0b_cst_59 : Ref sig .tc := ⟨.hbm, 308, rfl⟩
abbrev main_while0b_v212 : Ref sig .tc := ⟨.hbm, 309, rfl⟩
abbrev main_while0b_v213 : Ref sig .tc := ⟨.hbm, 310, rfl⟩
abbrev main_while0b_v214 : Ref sig .tc := ⟨.hbm, 311, rfl⟩
abbrev main_while0b_v215 : Ref sig .tc := ⟨.hbm, 312, rfl⟩
abbrev main_while0b_v216 : Ref sig .tc := ⟨.hbm, 313, rfl⟩
abbrev main_while0b_v217 : Ref sig .tc := ⟨.hbm, 314, rfl⟩
abbrev main_while0b_cst_60 : Ref sig .tc := ⟨.hbm, 315, rfl⟩
abbrev main_while0b_v218 : Ref sig .tc := ⟨.hbm, 316, rfl⟩
abbrev main_while0b_v219 : Ref sig .tc := ⟨.hbm, 317, rfl⟩
abbrev main_while0b_v220 : Ref sig .tc := ⟨.hbm, 318, rfl⟩
abbrev main_while0b_cst_61 : Ref sig .tc := ⟨.hbm, 319, rfl⟩
abbrev main_while0b_v221 : Ref sig .tc := ⟨.hbm, 320, rfl⟩
abbrev main_while0b_v222 : Ref sig .tc := ⟨.hbm, 321, rfl⟩
abbrev main_while0b_v223 : Ref sig .tc := ⟨.hbm, 322, rfl⟩
abbrev main_while0b_cst_62 : Ref sig .tc := ⟨.hbm, 323, rfl⟩
abbrev main_while0b_v224 : Ref sig .tc := ⟨.hbm, 324, rfl⟩
abbrev main_while0b_v225 : Ref sig .tc := ⟨.hbm, 325, rfl⟩
abbrev main_while0b_v226 : Ref sig .tc := ⟨.hbm, 326, rfl⟩
abbrev main_while0b_v227 : Ref sig .tc := ⟨.hbm, 327, rfl⟩
abbrev main_while0b_v228 : Ref sig .tc := ⟨.hbm, 328, rfl⟩
abbrev main_while0b_v229 : Ref sig .tc := ⟨.hbm, 329, rfl⟩
abbrev main_while0b_cst_63 : Ref sig .tc := ⟨.hbm, 330, rfl⟩
abbrev main_while0b_v230 : Ref sig .tc := ⟨.hbm, 331, rfl⟩
abbrev main_while0b_v231 : Ref sig .tc := ⟨.hbm, 332, rfl⟩
abbrev main_while0b_v232 : Ref sig .tc := ⟨.hbm, 333, rfl⟩
abbrev main_while0b_cst_64 : Ref sig .tc := ⟨.hbm, 334, rfl⟩
abbrev main_while0b_v233 : Ref sig .tc := ⟨.hbm, 335, rfl⟩
abbrev main_while0b_v234 : Ref sig .tc := ⟨.hbm, 336, rfl⟩
abbrev main_while0b_v235 : Ref sig .tc := ⟨.hbm, 337, rfl⟩
abbrev main_while0b_cst_65 : Ref sig .tc := ⟨.hbm, 338, rfl⟩
abbrev main_while0b_v236 : Ref sig .tc := ⟨.hbm, 339, rfl⟩
abbrev main_while0b_v237 : Ref sig .tc := ⟨.hbm, 340, rfl⟩
abbrev main_while0b_v238 : Ref sig .tc := ⟨.hbm, 341, rfl⟩
abbrev main_while0b_v239 : Ref sig .tc := ⟨.hbm, 342, rfl⟩
abbrev main_while0b_v240 : Ref sig .tc := ⟨.hbm, 343, rfl⟩
abbrev main_while0b_v241 : Ref sig .tc := ⟨.hbm, 344, rfl⟩
abbrev main_while0b_cst_66 : Ref sig .tc := ⟨.hbm, 345, rfl⟩
abbrev main_while0b_v242 : Ref sig .tc := ⟨.hbm, 346, rfl⟩
abbrev main_while0b_v243 : Ref sig .tc := ⟨.hbm, 347, rfl⟩
abbrev main_while0b_v244 : Ref sig .tc := ⟨.hbm, 348, rfl⟩
abbrev main_while0b_cst_67 : Ref sig .tc := ⟨.hbm, 349, rfl⟩
abbrev main_while0b_v245 : Ref sig .tc := ⟨.hbm, 350, rfl⟩
abbrev main_while0b_v246 : Ref sig .tc := ⟨.hbm, 351, rfl⟩
abbrev main_while0b_v247 : Ref sig .tc := ⟨.hbm, 352, rfl⟩
abbrev main_while0b_cst_68 : Ref sig .tc := ⟨.hbm, 353, rfl⟩
abbrev main_while0b_v248 : Ref sig .tc := ⟨.hbm, 354, rfl⟩
abbrev main_while0b_v249 : Ref sig .tc := ⟨.hbm, 355, rfl⟩
abbrev main_while0b_v250 : Ref sig .tc := ⟨.hbm, 356, rfl⟩
abbrev main_while0b_v251 : Ref sig .tc := ⟨.hbm, 357, rfl⟩
abbrev main_while0b_v252 : Ref sig .tc := ⟨.hbm, 358, rfl⟩
abbrev main_while0b_v253 : Ref sig .tc := ⟨.hbm, 359, rfl⟩
abbrev main_while0b_v254 : Ref sig .tc := ⟨.hbm, 360, rfl⟩
abbrev main_while0b_v255 : Ref sig .tc := ⟨.hbm, 361, rfl⟩
abbrev main_while0b_call10_v0 : Ref sig .tc := ⟨.hbm, 362, rfl⟩
abbrev main_while0b_call10_c : Ref sig .tc := ⟨.hbm, 363, rfl⟩
abbrev main_while0b_call10_c_0 : Ref sig .tc := ⟨.hbm, 364, rfl⟩
abbrev main_while0b_call10_c_1 : Ref sig .tc := ⟨.hbm, 365, rfl⟩
abbrev main_while0b_v256 : Ref sig .tc := ⟨.hbm, 366, rfl⟩
abbrev main_while0b_c_69 : Ref sig .tc := ⟨.hbm, 367, rfl⟩
abbrev main_while0b_v257 : Ref sig .tc := ⟨.hbm, 368, rfl⟩
abbrev main_v13 : Ref sig .tc := ⟨.hbm, 369, rfl⟩

abbrev nD : Nat := 1
abbrev τ : Topo := Topo.v7x

variable {F : FTy → Type} [FloatOps F]

abbrev main_while0_count : Scf.Loop 32 := ⟨0#32, 32#32, 1#32⟩
-- ==== Project.lean ====
abbrev S2048x2048 : Shape := ⟨2, ![2048, 2048]⟩
abbrev S512x2048 : Shape := ⟨2, ![512, 2048]⟩
abbrev S512x1024 : Shape := ⟨2, ![512, 1024]⟩
abbrev S4x2048 : Shape := ⟨2, ![4, 2048]⟩
abbrev S4x1 : Shape := ⟨2, ![4, 1]⟩
abbrev S32x64x1024 : Shape := ⟨3, ![32, 64, 1024]⟩
abbrev S256x2048 : Shape := ⟨2, ![256, 2048]⟩
abbrev S8x32x1024 : Shape := ⟨3, ![8, 32, 1024]⟩
abbrev S4x256 : Shape := ⟨2, ![4, 256]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x1024, .f32⟩
  | .hbm, ⟨5, _⟩ => ⟨S4x2048, .f32⟩
  | .hbm, ⟨6, _⟩ => ⟨S4x1, .f32⟩
  | .hbm, ⟨7, _⟩ => ⟨S32x64x1024, .f32⟩
  | .hbm, ⟨8, _⟩ => ⟨S32x64x1024, .f32⟩
  | .hbm, ⟨9, _⟩ => ⟨S32x64x1024, .f32⟩
  | .hbm, ⟨10, _⟩ => ⟨S4x2048, .f32⟩
  | .local _ .vmem, ⟨0, _⟩ => ⟨S256x2048, .f32⟩
  | .local _ .vmem, ⟨1, _⟩ => ⟨S256x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x1024, .f32⟩
  | .local _ .vmem, ⟨6, _⟩ => ⟨S4x2048, .f32⟩
  | .local _ .vmem, ⟨7, _⟩ => ⟨S4x1, .f32⟩
  | .local _ .vmem, ⟨8, _⟩ => ⟨S8x32x1024, .f32⟩
  | .local _ .vmem, ⟨9, _⟩ => ⟨S8x32x1024, .f32⟩
  | .local _ .vmem, ⟨10, _⟩ => ⟨S8x32x1024, .f32⟩
  | .local _ .vmem, ⟨11, _⟩ => ⟨S8x32x1024, .f32⟩
  | .local _ .vmem, ⟨12, _⟩ => ⟨S8x32x1024, .f32⟩
  | .local _ .vmem, ⟨13, _⟩ => ⟨S8x32x1024, .f32⟩
  | .local _ .vmem, ⟨14, _⟩ => ⟨S4x256, .f32⟩
  | .local _ .vmem, ⟨15, _⟩ => ⟨S4x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ProjectIdeal.lean ====
variable {F : FTy → Type} [FloatOps F] [Named F]
def κ : String → Option EReal := fun
  | "inv_sqrt2" => some (((Real.sqrt 2)⁻¹ : ℝ) : EReal)
  | _ => none
-- ==== ProjectReferenceIdeal.lean ====
abbrev S2048x2048 : Shape := ⟨2, ![2048, 2048]⟩
abbrev S512x2048 : Shape := ⟨2, ![512, 2048]⟩
abbrev S512x1024 : Shape := ⟨2, ![512, 1024]⟩
abbrev S4x2048 : Shape := ⟨2, ![4, 2048]⟩
abbrev S4x1 : Shape := ⟨2, ![4, 1]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S2048x1024 : Shape := ⟨2, ![2048, 1024]⟩
abbrev S2048x4 : Shape := ⟨2, ![2048, 4]⟩
abbrev S4 : Shape := ⟨1, ![4]⟩
abbrev S1x4 : Shape := ⟨2, ![1, 4]⟩
abbrev S2x32x32x1024 : Shape := ⟨4, ![2, 32, 32, 1024]⟩
abbrev S32x2x32x1024 : Shape := ⟨4, ![32, 2, 32, 1024]⟩
abbrev S32x64x1024 : Shape := ⟨3, ![32, 64, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x1024, .f32⟩
  | .hbm, ⟨5, _⟩ => ⟨S4x2048, .f32⟩
  | .hbm, ⟨6, _⟩ => ⟨S4x1, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x1024, .f32⟩
  | .hbm, ⟨21, _⟩ => ⟨S_, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x1024, .f32⟩
  | .hbm, ⟨39, _⟩ => ⟨S_, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x512, .f32⟩
  | .hbm, ⟨44, _⟩ => ⟨S2048x512, .f32⟩
  | .hbm, ⟨45, _⟩ => ⟨S2048x1024, .f32⟩
  | .hbm, ⟨46, _⟩ => ⟨S2048x4, .f32⟩
  | .hbm, ⟨47, _⟩ => ⟨S4, .f32⟩
  | .hbm, ⟨48, _⟩ => ⟨S1x4, .f32⟩
  | .hbm, ⟨49, _⟩ => ⟨S2048x4, .f32⟩
  | .hbm, ⟨50, _⟩ => ⟨S2048x4, .f32⟩
  | .hbm, ⟨51, _⟩ => ⟨S2048x4, .f32⟩
  | .hbm, ⟨52, _⟩ => ⟨S2048x4, .f32⟩
  | .hbm, ⟨53, _⟩ => ⟨S_, .f32⟩
  | .hbm, ⟨54, _⟩ => ⟨S2048x4, .f32⟩
  | .hbm, ⟨55, _⟩ => ⟨S2048x4, .f32⟩
  | .hbm, ⟨56, _⟩ => ⟨S_, .f32⟩
  | .hbm, ⟨57, _⟩ => ⟨S2048x4, .f32⟩
  | .hbm, ⟨58, _⟩ => ⟨S2048x4, .f32⟩
  | .hbm, ⟨59, _⟩ => ⟨S2x32x32x1024, .f32⟩
  | .hbm, ⟨60, _⟩ => ⟨S32x2x32x1024, .f32⟩
  | .hbm, ⟨61, _⟩ => ⟨S32x64x1024, .f32⟩
  | .hbm, ⟨62, _⟩ => ⟨S2x32x32x1024, .f32⟩
  | .hbm, ⟨63, _⟩ => ⟨S32x2x32x1024, .f32⟩
  | .hbm, ⟨64, _⟩ => ⟨S32x64x1024, .f32⟩
  | .hbm, ⟨65, _⟩ => ⟨S2x32x32x1024, .f32⟩
  | .hbm, ⟨66, _⟩ => ⟨S32x2x32x1024, .f32⟩
  | .hbm, ⟨67, _⟩ => ⟨S32x64x1024, .f32⟩
  | .hbm, ⟨68, _⟩ => ⟨S4x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_call1_v2 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Combine.lean ====
abbrev S2048x2048 : Shape := ⟨2, ![2048, 2048]⟩
abbrev S2048x512 : Shape := ⟨2, ![2048, 512]⟩
abbrev S2048x1 : Shape := ⟨2, ![2048, 1]⟩
abbrev S256x2048 : Shape := ⟨2, ![256, 2048]⟩
abbrev S256x512 : Shape := ⟨2, ![256, 512]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x512, .f32⟩
  | .hbm, ⟨2, _⟩ => ⟨S2048x512, .f32⟩
  | .hbm, ⟨3, _⟩ => ⟨S2048x1, .f32⟩
  | .hbm, ⟨4, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S2048x512, .f32⟩
  | .local _ .vmem, ⟨5, _⟩ => ⟨S256x1, .f32⟩
  | .local _ .vmem, ⟨6, _⟩ => ⟨S256x1, .f32⟩
  | .local _ .vmem, ⟨7, _⟩ => ⟨S256x2048, .f32⟩
  | .local _ .vmem, ⟨8, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineReferenceIdeal.lean ====
abbrev S2048x2048 : Shape := ⟨2, ![2048, 2048]⟩
abbrev S2048x512 : Shape := ⟨2, ![2048, 512]⟩
abbrev S2048x1 : Shape := ⟨2, ![2048, 1]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x512, .f32⟩
  | .hbm, ⟨2, _⟩ => ⟨S2048x512, .f32⟩
  | .hbm, ⟨3, _⟩ => ⟨S2048x1, .f32⟩
  | .hbm, ⟨4, _⟩ => ⟨S512x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Frames.lean ====
/- The frames of the three programs, and the two constants that the ideal kernel names. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Scan

open Idealize.ShloMosaic Idealize.SL.Sem

/-- The reference runs on the host alone and has no semaphore, so all of its counters end at zero. -/
theorem reference_frame : Cert.quiescent_ReferenceIdeal :=
  fun m ρ _ => (θ_run _ _ _).mono (fun r h => ⟨fun c => (h c).2, sem_eq_zero_of_no_sems (by decide) r.2⟩)
    (Cert.ReferenceIdeal.Value.run m ρ)

/-- Each constant that the ideal kernel names is, as a word, what the kernel has there, and over the reals the named value. -/
theorem constants : Cert.preserves_Kernel_KernelIdeal :=
  ⟨IdealRules.named_const.statement _ _ _ _ _ rfl, IdealRules.named_const.statement _ _ _ _ _ rfl⟩

end Cert.Scan

end
-- ==== Proof.Up.lean ====
/- Real numbers inside the extended reals: the arrays of the two programs hold real numbers throughout, and each
   operation of the programs then is the operation of the real numbers. -/
module

public import proofs.«01_k».proof.Defs
public import Idealize.ShloMosaic.Lib.Pointwise

@[expose] public section

noncomputable section

namespace Cert.Scan

open Idealize.ShloMosaic

/-- A matrix with real entries. -/
abbrev Mat (a b : ℕ) := Matrix (Fin a) (Fin b) ℝ

/-- The vector's entries are these real numbers. -/
def Is1 {a : ℕ} (v : FVec Ideal ⟨1, ![a]⟩ .f32) (r : Fin a → ℝ) : Prop := ∀ i, v (ix1 i) = ((r i : ℝ) : EReal)

/-- The matrix's entries are these real numbers. -/
def Is2 {a b : ℕ} (v : FVec Ideal ⟨2, ![a, b]⟩ .f32) (M : Mat a b) : Prop := ∀ i j, v (ix2 i j) = ((M i j : ℝ) : EReal)

/-- The entries of the array of rank three are these real numbers. -/
def Is3 {a b c : ℕ} (v : FVec Ideal ⟨3, ![a, b, c]⟩ .f32) (r : Fin a → Fin b → Fin c → ℝ) : Prop :=
  ∀ i j k, v (ix3 i j k) = ((r i j k : ℝ) : EReal)

/-- The entries of the array of rank four are these real numbers. -/
def Is4 {a b c d : ℕ} (v : FVec Ideal ⟨4, ![a, b, c, d]⟩ .f32) (r : Fin a → Fin b → Fin c → Fin d → ℝ) : Prop :=
  ∀ i j k l, v (ix4 i j k l) = ((r i j k l : ℝ) : EReal)

/-- The scalar array's one entry is this real number. -/
def Is0 (v : FVec Ideal ⟨0, ![]⟩ .f32) (r : ℝ) : Prop := v ix0 = ((r : ℝ) : EReal)

/-- The error function of the real numbers. -/
def erfR (r : ℝ) : ℝ := 2 / Real.sqrt Real.pi * ∫ t in (0 : ℝ)..r, Real.exp (-(t ^ 2))

/-- A finite sum of real numbers is the same sum in the extended reals. -/
theorem up_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The quotient by a real number that is not zero is the real quotient. -/
theorem up_div (a b : ℝ) (h : b ≠ 0) : Ideal.div (a : EReal) (b : EReal) = ((a / b : ℝ) : EReal) := by
  rw [Ideal.div, if_neg (by exact_mod_cast h), div_eq_mul_inv, EReal.coe_mul, EReal.coe_inv]

/-- The root of a real number that is not negative is the real root. -/
theorem up_sqrt (a : ℝ) (h : 0 ≤ a) : Ideal.sqrt (a : EReal) = ((Real.sqrt a : ℝ) : EReal) := by
  show (if a < 0 then (⊥ : EReal) else (Real.sqrt a : EReal)) = _
  rw [if_neg (not_lt.2 h)]

/-- The exponential of a real number is the real exponential. -/
theorem up_exp (a : ℝ) : Ideal.exp (a : EReal) = ((Real.exp a : ℝ) : EReal) := rfl

/-- The error function of a real number is the real error function. -/
theorem up_erf (a : ℝ) : Ideal.erf (a : EReal) = ((erfR a : ℝ) : EReal) := rfl

/-- The complementary error function of a real number. -/
theorem up_erfc (a : ℝ) : Ideal.erfc (a : EReal) = ((1 - erfR a : ℝ) : EReal) := by
  rw [Ideal.erfc, up_erf, EReal.coe_sub, EReal.coe_one]

/-- The larger of two real numbers. -/
theorem up_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The angle of the point left of the origin is the half turn. -/
theorem up_half_turn : Ideal.atan2 ((0 : ℝ) : EReal) (((-1 : ℝ)) : EReal) = ((Real.pi : ℝ) : EReal) := by
  show ((if (0 : ℝ) < -1 then Real.arctan (0 / -1)
    else if (-1 : ℝ) < 0 then if (0 : ℝ) ≤ 0 then Real.arctan (0 / -1) + Real.pi else Real.arctan (0 / -1) - Real.pi
    else if (0 : ℝ) < 0 then Real.pi / 2 else if (0 : ℝ) < 0 then -(Real.pi / 2) else 0 : ℝ) : EReal) = _
  rw [if_neg (by norm_num), if_pos (by norm_num), if_pos le_rfl]
  simp

/-- The first coefficient of the fifth-order iteration, as the programs write it. -/
def cA : ℝ := 14447280 / 4194304
/-- The second coefficient of the fifth-order iteration. -/
def cB : ℝ := -(10013901 / 2097152)
/-- The third coefficient of the fifth-order iteration. -/
def cC : ℝ := 8520729 / 4194304
/-- The number added to a momentum's norm before it divides. -/
def eps7 : ℝ := 14073749 / 140737488355328
/-- The floor of a sample's gradient norm. -/
def eps8 : ℝ := 11258999 / 1125899906842624

theorem eps7_pos : 0 < eps7 := by norm_num [eps7]
theorem eps8_pos : 0 < eps8 := by norm_num [eps8]

theorem lit_a : Ideal.ofBits .f32 0x405C72B0#32 = ((cA : ℝ) : EReal) := by
  simp [Ideal.ofBits, Ideal.ieee, -EReal.coe_mul, cA]; norm_num
theorem lit_b : Ideal.ofBits .f32 0xC098CCCD#32 = ((cB : ℝ) : EReal) := by
  simp [Ideal.ofBits, Ideal.ieee, -EReal.coe_mul, cB]; norm_num
theorem lit_c : Ideal.ofBits .f32 0x40020419#32 = ((cC : ℝ) : EReal) := by
  simp [Ideal.ofBits, Ideal.ieee, -EReal.coe_mul, cC]; norm_num
theorem lit_eps7 : Ideal.ofBits .f32 0x33D6BF95#32 = ((eps7 : ℝ) : EReal) := by
  simp [Ideal.ofBits, Ideal.ieee, -EReal.coe_mul, eps7]; norm_num
theorem lit_eps8 : Ideal.ofBits .f32 0x322BCC77#32 = ((eps8 : ℝ) : EReal) := by
  simp [Ideal.ofBits, Ideal.ieee, -EReal.coe_mul, eps8]; norm_num
theorem lit_ten : Ideal.ofBits .f32 0x41200000#32 = ((10 : ℝ) : EReal) := by
  simp [Ideal.ofBits, Ideal.ieee, -EReal.coe_mul]; norm_num
theorem lit_64th : Ideal.ofBits .f32 0x3C800000#32 = ((1 / 64 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_two : Ideal.ofBits .f32 0xC0000000#32 = ((-2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num

end Cert.Scan

end
-- ==== Proof.Real.lean ====
/- One chunk of the memory's update over the real numbers, as the kernel writes it and as the reference writes it. -/
module

public import proofs.«01_k».proof.Proof.Up

@[expose] public section

noncomputable section

namespace Cert.Scan

open Matrix

variable {n p h : ℕ}

/-- The Gram matrix's polynomial of the fifth-order iteration. -/
def poly (A : Mat p p) : Mat p p := cA • 1 + cB • A + cC • (A * A)

/-- The iteration's factor as the kernel uses it: the polynomial of the Gram matrix. -/
def fac (X : Mat p h) : Mat p p := poly (X * Xᵀ)

/-- One step of the iteration as the reference writes it. -/
def stepX (X : Mat p h) : Mat p h := cA • X + (cB • (X * Xᵀ) + cC • (X * Xᵀ * (X * Xᵀ))) * X

/-- The reference's step multiplies by the kernel's factor. -/
theorem stepX_eq (X : Mat p h) : stepX X = fac X * X := by
  simp only [stepX, fac, poly, Matrix.add_mul, Matrix.smul_mul, Matrix.one_mul, add_assoc]

/-- The kernel's next Gram matrix is the Gram matrix of the reference's next iterate. -/
theorem gram_step (X : Mat p h) : fac X * (fac X * (X * Xᵀ)) = stepX X * (stepX X)ᵀ := by
  rw [stepX_eq, transpose_mul]
  have hs : (X * Xᵀ)ᵀ = X * Xᵀ := by rw [transpose_mul, transpose_transpose]
  have ht : (fac X)ᵀ = fac X := by
    simp only [fac, poly, transpose_add, transpose_smul, transpose_one, transpose_mul (X * Xᵀ) (X * Xᵀ), hs]
  have hc : fac X * (X * Xᵀ) = (X * Xᵀ) * fac X := by
    simp only [fac, poly, Matrix.add_mul, Matrix.mul_add, Matrix.smul_mul, Matrix.mul_smul, Matrix.one_mul, Matrix.mul_one, Matrix.mul_assoc]
  rw [ht, hc]
  simp only [Matrix.mul_assoc]

/-- The sum of the squares of a matrix's entries. -/
def sq (S : Mat p h) : ℝ := ∑ i, ∑ j, S i j * S i j

theorem sq_nonneg (S : Mat p h) : 0 ≤ sq S :=
  Finset.sum_nonneg fun _ _ => Finset.sum_nonneg fun _ _ => mul_self_nonneg _

/-- A matrix divided by its norm. -/
def unit (S : Mat p h) : Mat p h := fun i j => S i j / (Real.sqrt (sq S) + eps7)

theorem norm_pos (S : Mat p h) : 0 < Real.sqrt (sq S) + eps7 := add_pos_of_nonneg_of_pos (Real.sqrt_nonneg _) eps7_pos

/-- The reciprocal of a matrix's norm. -/
def inv (S : Mat p h) : ℝ := 1 / (Real.sqrt (sq S) + eps7)

theorem unit_eq (S : Mat p h) : unit S = inv S • S := by
  ext i j; simp only [unit, inv, Matrix.smul_apply, smul_eq_mul]; ring

/-- The Gram matrix of the divided matrix. -/
theorem unit_gram (S : Mat p h) : unit S * (unit S)ᵀ = (inv S * inv S) • (S * Sᵀ) := by
  rw [unit_eq, transpose_smul, Matrix.smul_mul, Matrix.mul_smul, smul_smul]

/-- The five steps of the iteration from the divided matrix. -/
def orth (S : Mat p h) : Mat p h := stepX (stepX (stepX (stepX (stepX (unit S)))))

/-- The kernel multiplies the five factors first, then the matrix, then the reciprocal. -/
theorem orth_eq (S : Mat p h) (X0 X1 X2 X3 X4 : Mat p h) (h0 : X0 = unit S) (h1 : X1 = stepX X0) (h2 : X2 = stepX X1)
    (h3 : X3 = stepX X2) (h4 : X4 = stepX X3) :
    inv S • ((fac X4 * (fac X3 * (fac X2 * (fac X1 * fac X0)))) * S) = orth S := by
  have e : orth S = stepX X4 := by rw [h4, h3, h2, h1, h0]; rfl
  rw [e, stepX_eq, h4, stepX_eq, h3, stepX_eq, h2, stepX_eq, h1, stepX_eq, h0, unit_eq, ← unit_eq]
  simp only [Matrix.mul_assoc]
  rw [unit_eq]
  simp only [Matrix.mul_smul]

/-- The activation: half the argument times one plus the error function. -/
def act (x : ℝ) : ℝ := 1 / 2 * x * (1 + erfR (x * (Real.sqrt 2)⁻¹))

/-- The activation's derivative. -/
def dact (x : ℝ) : ℝ := 1 / 2 * (1 + erfR (x * (Real.sqrt 2)⁻¹)) + x * (Real.exp (-(1 / 2) * x * x) * (Real.sqrt (2 * Real.pi))⁻¹)

/-- The error function is odd. -/
theorem erfR_neg (x : ℝ) : erfR (-x) = -erfR x := by
  have h := intervalIntegral.integral_comp_neg (a := (0 : ℝ)) (b := x) fun t : ℝ => Real.exp (-(t ^ 2))
  simp only [neg_sq, neg_zero] at h
  rw [erfR, erfR, h, intervalIntegral.integral_symm 0 (-x)]
  ring

theorem root_half : Real.sqrt (1 / 2) = (Real.sqrt 2)⁻¹ := by rw [one_div, Real.sqrt_inv]

/-- The activation as the reference writes it. -/
theorem act_ref (x : ℝ) : 1 / 2 * x * (1 - erfR (-x * Real.sqrt (1 / 2))) = act x := by
  rw [act, root_half, neg_mul, erfR_neg, sub_neg_eq_add]

/-- The activation's derivative times an incoming gradient, as the reference writes it. -/
theorem dact_ref (x g : ℝ) :
    -(-2 / Real.sqrt Real.pi * Real.exp (-(-x * Real.sqrt (1 / 2)) * (-x * Real.sqrt (1 / 2))) * (1 / 2 * x * g) * Real.sqrt (1 / 2))
      + 1 / 2 * (g * (1 - erfR (-x * Real.sqrt (1 / 2)))) = g * dact x := by
  have h2 : Real.sqrt 2 ≠ 0 := by positivity
  have hp : Real.sqrt Real.pi ≠ 0 := (Real.sqrt_pos.2 Real.pi_pos).ne'
  have e : -(-x * Real.sqrt (1 / 2)) * (-x * Real.sqrt (1 / 2)) = -(1 / 2) * x * x := by
    have := Real.mul_self_sqrt (show (0 : ℝ) ≤ 1 / 2 by norm_num)
    linear_combination (-x * x) * this
  rw [e, dact, root_half, neg_mul x, erfR_neg, Real.sqrt_mul (by norm_num : (0 : ℝ) ≤ 2)]
  field_simp
  ring

/-- The larger of a sample's gradient norm, a product of two norms, and its floor. -/
def nrm {a b : ℕ} (x : Mat n a) (y : Mat n b) (i : Fin n) : ℝ :=
  max (Real.sqrt (∑ j, x i j * x i j) * Real.sqrt (∑ j, y i j * y i j)) eps8

/-- A sample's weight in the mean of the clipped gradients, from its norm. -/
def wt (N : Fin n → ℝ) (i : Fin n) : ℝ := 1 / 64 / max (N i / 10) 1

/-- The mean of the clipped gradients: each sample's is an outer product. -/
def grad {a b : ℕ} (N : Fin n → ℝ) (x : Mat n a) (y : Mat n b) : Mat a b :=
  Matrix.transpose (fun i j => x i j * wt N i : Mat n a) * y

/-- The hidden layer. -/
def hid (Z : Mat n h) : Mat n h := fun i j => act (Z i j)

/-- The loss's derivative at the memory's answer. -/
def del (P V : Mat n p) : Mat n p := fun i j => 2 * (P i j - V i j)

/-- The loss's derivative at the hidden layer's argument. -/
def pre (D : Mat n p) (U : Mat p h) (Z : Mat n h) : Mat n h := fun i j => (D * U) i j * dact (Z i j)

/-- The memory and its momenta; the second layer is held transposed. -/
structure St where
  W : Mat 1024 2048
  U : Mat 1024 2048
  S : Mat 1024 2048
  T : Mat 1024 2048

/-- The momentum after a gradient. -/
def mom (m l : ℝ) (S G : Mat p h) : Mat p h := fun i j => m * S i j - l * G i j

/-- The weights after a step of the momentum's orthogonal part. -/
def wts (d l : ℝ) (W N : Mat p h) : Mat p h := fun i j => (1 - d) * W i j + l * N i j

/-- The first layer's gradient. -/
def gradW (K V : Mat 64 1024) (s : St) : Mat 1024 2048 :=
  let D := del (hid (K * s.W) * s.Uᵀ) V
  let Y := pre D s.U (K * s.W)
  grad (nrm K Y) K Y

/-- The second layer's gradient, transposed. -/
def gradU (K V : Mat 64 1024) (s : St) : Mat 1024 2048 :=
  let D := del (hid (K * s.W) * s.Uᵀ) V
  grad (nrm (hid (K * s.W)) D) D (hid (K * s.W))

/-- One chunk's update. -/
def step (K V : Mat 64 1024) (l m d : ℝ) (s : St) : St where
  S := mom m l s.S (gradW K V s)
  T := mom m l s.T (gradU K V s)
  W := wts d l s.W (orth (mom m l s.S (gradW K V s)))
  U := wts d l s.U (orth (mom m l s.T (gradU K V s)))

/-- One chunk's answers. -/
def answer (Q : Mat 64 1024) (s : St) (O : Mat 1024 512) : Mat 64 512 := hid (Q * s.W) * s.Uᵀ * O

/-- One matrix on top of another. -/
def cat {b : ℕ} (X Y : Mat 64 b) : Mat 128 b := fun i j => if h : i.1 < 64 then X ⟨i.1, h⟩ j else Y ⟨i.1 - 64, by omega⟩ j

/-- The upper half of the rows. -/
def upper {b : ℕ} (M : Mat 128 b) : Mat 64 b := fun i j => M ⟨i.1, by omega⟩ j

/-- The lower half of the rows. -/
def lower {b : ℕ} (M : Mat 128 b) : Mat 64 b := fun i j => M ⟨64 + i.1, by omega⟩ j

theorem upper_cat {b : ℕ} (X Y : Mat 64 b) : upper (cat X Y) = X := by
  ext i j; simp [upper, cat]

theorem lower_cat {b : ℕ} (X Y : Mat 64 b) : lower (cat X Y) = Y := by
  ext i j; simp [lower, cat]

theorem upper_mul {b c : ℕ} (M : Mat 128 b) (N : Mat b c) : upper (M * N) = upper M * N := rfl

theorem lower_mul {b c : ℕ} (M : Mat 128 b) (N : Mat b c) : lower (M * N) = lower M * N := rfl

theorem upper_hid {b : ℕ} (M : Mat 128 b) : upper (hid M) = hid (upper M) := rfl

theorem lower_hid {b : ℕ} (M : Mat 128 b) : lower (hid M) = hid (lower M) := rfl

/-- The arguments, over the real numbers: chunks of queries, keys and values, the chunks' numbers, the weights. -/
structure Args where
  Q : Fin 32 → Mat 64 1024
  K : Fin 32 → Mat 64 1024
  V : Fin 32 → Mat 64 1024
  P : Fin 32 → Fin 3 → ℝ
  W : Mat 1024 2048
  U : Mat 1024 2048
  O : Mat 1024 512

/-- A chunk's place. -/
def row (n : ℕ) : Fin 32 := ⟨n % 32, Nat.mod_lt _ (by norm_num)⟩

/-- The memory before a chunk. -/
def Args.mem (A : Args) : ℕ → St
  | 0 => ⟨A.W, A.U, 0, 0⟩
  | n + 1 => step (A.K (row n)) (A.V (row n)) (A.P (row n) 0) (A.P (row n) 1) (A.P (row n) 2) (A.mem n)

/-- A chunk's answers. -/
def Args.ans (A : Args) (n : ℕ) : Mat 64 512 := answer (A.Q (row n)) (A.mem n) A.O

end Cert.Scan

end
-- ==== Proof.Pay.lean ====
/- What the kernel's stored values are over the real numbers. -/
module

public import proofs.«01_k».proof.Proof.Real
public import proofs.«01_k».proof.Proof.Gen.KernelIdeal.Skeleton

@[expose] public section

noncomputable section

namespace Cert.Scan

open Idealize.ShloMosaic Cert.KernelIdeal Cert.KernelIdeal.Gen Matrix

theorem up_one : (1 : EReal) = ((1 : ℝ) : EReal) := rfl
theorem up_zero : (0 : EReal) = ((0 : ℝ) : EReal) := rfl

/-- The root of a sum of squares. -/
theorem up_norm {ι : Type} [Fintype ι] (f : ι → ℝ) :
    Ideal.sqrt ((∑ k, f k * f k : ℝ) : EReal) = ((Real.sqrt (∑ k, f k * f k) : ℝ) : EReal) :=
  up_sqrt _ (Finset.sum_nonneg fun _ _ => mul_self_nonneg _)

/-- A tenth. -/
theorem up_tenth (a : ℝ) : Ideal.div (a : EReal) ((10 : ℝ) : EReal) = ((a / 10 : ℝ) : EReal) := up_div a 10 (by norm_num)

/-- The quotient by a number that is one at least. -/
theorem up_div_max (a b : ℝ) : Ideal.div (a : EReal) ((max b 1 : ℝ) : EReal) = ((a / max b 1 : ℝ) : EReal) :=
  up_div a _ (lt_of_lt_of_le one_pos (le_max_right _ _)).ne'

/-- The named reciprocal of the root of two. -/
theorem up_inv_sqrt2 : (Named.named κ "inv_sqrt2" 0x3F3504F3#32 : Ideal .f32) = (((Real.sqrt 2)⁻¹ : ℝ) : EReal) :=
  IdealRules.named_const.ideal_named_scalar _ _ _ _ rfl

/-- The named reciprocal of the root of the full turn. -/
theorem up_inv_sqrt2pi : (Named.named κ "inv_sqrt2pi" 0x3ECC422A#32 : Ideal .f32) = (((Real.sqrt (2 * Real.pi))⁻¹ : ℝ) : EReal) :=
  IdealRules.named_const.ideal_named_scalar _ _ _ _ rfl

/-- The kernel's error function is the real numbers'. -/
theorem up_kerf (a : ℝ) : (FloatOps.erf (a : EReal) : Ideal .f32) = ((erfR a : ℝ) : EReal) := rfl

/-- The block of one chunk: its rows are a matrix. -/
def IsB {a b : ℕ} (v : FVec Ideal ⟨3, ![1, a, b]⟩ .f32) (M : Mat a b) : Prop := ∀ i j, v (ix3 0 i j) = ((M i j : ℝ) : EReal)

/-- The chunk's keys. -/
theorem pay5_is {k : Vec Ideal S1x64x1024 .f32} {K : Mat 64 1024} (hk : IsB k K) : Is2 (k0_pay5 k) K := by
  intro i j
  pointwise [k0_pay5]
  exact hk i j

/-- The queries on top of the keys, times the first layer. -/
theorem pay6_is {k q : Vec Ideal S1x64x1024 .f32} {w : Vec Ideal S1024x2048 .f32} {K Q : Mat 64 1024} {W : Mat 1024 2048}
    (hk : IsB k K) (hq : IsB q Q) (hw : Is2 w W) : Is2 (k0_pay6 k q w) (cat Q K * W) := by
  intro i j
  have e : (cat Q K * W) i j = ∑ x, cat Q K i x * W x j := rfl
  rw [e]
  pointwise [k0_pay6, k0_pay5]
  have f := up_sum (Finset.univ : Finset (Fin 1024)) fun x => cat Q K i x * W x j
  refine Eq.trans ?_ f
  refine Finset.sum_congr rfl fun x _ => ?_
  refine Eq.trans (congrArg₂ (· * ·) ?_ (hw x j)) (EReal.coe_mul (cat Q K i x) (W x j)).symm
  unfold cat
  split
  · exact hq _ _
  · exact hk _ _

/-- The hidden layer of the queries and the keys. -/
theorem pay7_is {k q : Vec Ideal S1x64x1024 .f32} {w : Vec Ideal S1024x2048 .f32} {Z : Mat 128 2048}
    (h : Is2 (k0_pay6 k q w) Z) : Is2 (k0_pay7 k q w) (hid Z) := by
  intro i j
  pointwise [k0_pay7]
  simp only [h i j, lit_half, up_inv_sqrt2, ← EReal.coe_mul, up_kerf, up_one, ← EReal.coe_add]
  rfl

/-- The memory's answers to the queries and to the keys. -/
theorem pay8_is {k q : Vec Ideal S1x64x1024 .f32} {w u : Vec Ideal S1024x2048 .f32} {H : Mat 128 2048} {U : Mat 1024 2048}
    (h : Is2 (k0_pay7 k q w) H) (hu : Is2 u U) : Is2 (k0_pay8 k q w u) (H * Uᵀ) := by
  intro i j
  pointwise [k0_pay8]
  simp only [h _ _, hu _ _, ← EReal.coe_mul, up_sum]
  rfl

/-- The answers to the queries, times the output weights, by batch entry and place in the chunk. -/
theorem pay9_is {k q : Vec Ideal S1x64x1024 .f32} {w u : Vec Ideal S1024x2048 .f32} {o : Vec Ideal S1024x512 .f32}
    {P : Mat 128 1024} {O : Mat 1024 512} (h : Is2 (k0_pay8 k q w u) P) (ho : Is2 o O) :
    Is4 (k0_pay9 k q w u o) fun a _ c j => (upper P * O) ⟨32 * a.1 + c.1, by omega⟩ j := by
  intro a b c j
  pointwise [k0_pay9]
  simp only [h _ _, ho _ _, ← EReal.coe_mul, up_sum]
  refine congrArg Real.toEReal ?_
  rw [Matrix.mul_apply]
  refine Finset.sum_congr rfl fun x _ => ?_
  refine congrArg (fun r : ℝ => r * O x j) (congrArg (fun r => P r x) (Fin.ext ?_))
  show a.1 * 32 + c.1 = 32 * a.1 + c.1
  omega

/-- The hidden layer of the keys. -/
theorem pay10_is {x : FVec Ideal S128x2048 .f32} {H : Mat 128 2048} (h : Is2 x H) : Is2 (k0_pay10 x) (lower H) := by
  intro i j
  pointwise [k0_pay10]
  exact h _ _

/-- The loss's derivative at the answers to the keys. -/
theorem pay11_is {x : FVec Ideal S128x1024 .f32} {v : Vec Ideal S1x64x1024 .f32} {P : Mat 128 1024} {V : Mat 64 1024}
    (h : Is2 x P) (hv : IsB v V) : Is2 (k0_pay11 x v) (del (lower P) V) := by
  intro i j
  pointwise [k0_pay11]
  simp only [h _ _, hv _ _, lit_two, ← EReal.coe_mul, ← EReal.coe_sub]
  rfl

/-- The loss's derivative at the hidden layer's argument. -/
theorem pay12_is {z : FVec Ideal S128x2048 .f32} {x : FVec Ideal S128x1024 .f32} {v : Vec Ideal S1x64x1024 .f32}
    {u : Vec Ideal S1024x2048 .f32} {D : Mat 64 1024} {U : Mat 1024 2048} {Z : Mat 128 2048} (hz : Is2 z Z)
    (hd : Is2 (k0_pay11 x v) D) (hu : Is2 u U) : Is2 (k0_pay12 z x v u) (pre D U (lower Z)) := by
  intro i j
  pointwise [k0_pay12]
  simp only [hz _ _, hd _ _, hu _ _, lit_half, lit_neg_half, up_inv_sqrt2, up_inv_sqrt2pi, ← EReal.coe_mul, up_kerf, up_one,
    ← EReal.coe_add, up_sum, up_exp]
  rfl

/-- The norms of the first layer's gradients. -/
theorem pay13_is {k : FVec Ideal S64x1024 .f32} {z : FVec Ideal S128x2048 .f32} {x : FVec Ideal S128x1024 .f32}
    {v : Vec Ideal S1x64x1024 .f32} {u : Vec Ideal S1024x2048 .f32} {K : Mat 64 1024} {Y : Mat 64 2048} (hk : Is2 k K)
    (hy : Is2 (k0_pay12 z x v u) Y) : Is2 (k0_pay13 k z x v u) fun i _ => nrm K Y i := by
  intro i j
  pointwise [k0_pay13]
  simp only [hk _ _, hy _ _, ← EReal.coe_mul, up_sum, up_norm, lit_eps8, up_max]
  rfl

/-- The weights of the second layer's gradients. -/
theorem pay16_is {y : FVec Ideal S128x2048 .f32} {x : FVec Ideal S128x1024 .f32} {v : Vec Ideal S1x64x1024 .f32}
    {H : Mat 64 2048} {D : Mat 64 1024} (hh : Is2 (k0_pay10 y) H) (hd : Is2 (k0_pay11 x v) D) :
    Is2 (k0_pay16 (k0_pay14 y) (k0_pay15 x v)) fun i _ => wt (nrm H D) i := by
  intro i j
  pointwise [k0_pay16, k0_pay14, k0_pay15]
  simp only [hh _ _, hd _ _, ← EReal.coe_mul, up_sum, up_norm, lit_eps8, up_max, lit_ten, lit_64th, up_tenth, up_one, up_div_max]
  rfl

/-- The first layer's gradient. -/
theorem pay17_is {k : FVec Ideal S64x1024 .f32} {y : FVec Ideal S64x2048 .f32} {n : FVec Ideal S64x1 .f32}
    {K : Mat 64 1024} {Y : Mat 64 2048} {N : Fin 64 → ℝ} (hk : Is2 k K) (hy : Is2 y Y) (hn : Is2 n fun i _ => N i) :
    Is2 (k0_pay17 k y n) (grad N K Y) := by
  intro i j
  pointwise [k0_pay17]
  simp only [hk _ _, hy _ _, hn _ _, ← EReal.coe_mul, up_sum, up_max, lit_ten, lit_64th, up_tenth, up_one, up_div_max]
  rfl

/-- The second layer's gradient, transposed. -/
theorem pay54_is {y : FVec Ideal S64x2048 .f32} {d : FVec Ideal S64x1024 .f32} {n : FVec Ideal S64x1 .f32}
    {H : Mat 64 2048} {D : Mat 64 1024} {N : Fin 64 → ℝ} (hh : Is2 y H) (hd : Is2 d D) (hn : Is2 n fun i _ => wt N i) :
    Is2 (k0_pay54 y d n) (grad N D H) := by
  intro i j
  pointwise [k0_pay54]
  simp only [hh _ _, hd _ _, hn _ _, ← EReal.coe_mul, up_sum]
  rfl

/-- A momentum after a gradient. -/
theorem pay18_is {l m : Elt Ideal .f32} {s g : Vec Ideal S1024x2048 .f32} {L M : ℝ} {S G : Mat 1024 2048}
    (hl : l = ((L : ℝ) : EReal)) (hm : m = ((M : ℝ) : EReal)) (hs : Is2 s S) (hg : Is2 g G) :
    Is2 (k0_pay18 l m s g) (mom M L S G) := by
  intro i j
  subst hl hm
  pointwise [k0_pay18]
  simp only [hs _ _, hg _ _, ← EReal.coe_mul, ← EReal.coe_sub]
  rfl

/-- Weights after a step. -/
theorem pay2_is {l d : Elt Ideal .f32} {w x : Vec Ideal S1024x2048 .f32} {L D : ℝ} {W X : Mat 1024 2048}
    (hl : l = ((L : ℝ) : EReal)) (hd : d = ((D : ℝ) : EReal)) (hw : Is2 w W) (hx : Is2 x X) :
    Is2 (k0_pay2 l d w x) (wts D L W X) := by
  intro i j
  subst hl hd
  pointwise [k0_pay2]
  simp only [hw _ _, hx _ _, up_one, ← EReal.coe_mul, ← EReal.coe_sub, ← EReal.coe_add]
  rfl

/-- The zero momentum. -/
theorem pay3_is : Is2 (k0_pay3 (F := Ideal)) 0 := by
  intro i j
  pointwise [k0_pay3]
  rfl

/-- The reciprocal of a momentum's norm. -/
theorem pay20_is {s : Vec Ideal S1024x2048 .f32} {S : Mat 1024 2048} (hs : Is2 s S) :
    k0_pay20 (k0_pay19 s) = ((inv S : ℝ) : EReal) := by
  pointwise [k0_pay20, k0_pay19]
  simp only [hs _ _, ← EReal.coe_mul, up_sum]
  change Ideal.div 1 (Ideal.sqrt ((sq S : ℝ) : EReal) + Ideal.ofBits FTy.f32 0x33D6BF95#32) = _
  rw [up_sqrt _ (sq_nonneg S), lit_eps7, ← EReal.coe_add, up_one, up_div _ _ (norm_pos S).ne']
  rfl

/-- The Gram matrix of the divided momentum. -/
theorem pay21_is {s : Vec Ideal S1024x2048 .f32} {S : Mat 1024 2048} (hs : Is2 s S) :
    Is2 (k0_pay21 (k0_pay19 s) s s) (unit S * (unit S)ᵀ) := by
  intro i j
  rw [unit_gram]
  pointwise [k0_pay21]
  simp only [pay20_is hs, hs _ _, ← EReal.coe_mul, up_sum]
  rfl

/-- A product of two matrices of order 1024. -/
theorem pay23_is {a b : Vec Ideal S1024x1024 .f32} {A B : Mat 1024 1024} (ha : Is2 a A) (hb : Is2 b B) :
    Is2 (k0_pay23 a b) (A * B) := by
  intro i j
  pointwise [k0_pay23]
  simp only [ha _ _, hb _ _, ← EReal.coe_mul, up_sum]
  rfl

/-- A copy. -/
theorem pay26_is {a : Vec Ideal S1024x1024 .f32} {A : Mat 1024 1024} (ha : Is2 a A) : Is2 (k0_pay26 a) A := by
  intro i j
  pointwise [k0_pay26]
  exact ha i j

/-- The multiple of the identity matrix. -/
theorem pay22_is : Is2 (k0_pay22 (F := Ideal)) (cA • 1) := by
  intro i j
  pointwise [k0_pay22]
  simp only [Matrix.smul_apply, Matrix.one_apply, lit_a]
  by_cases h : i = j
  · subst h; simp [IntOp.cmpi, Scalar.select]
  · have h' : i.1 ≠ j.1 := fun e => h (Fin.ext e)
    have h2 : BitVec.ofNat 32 i.1 ≠ BitVec.ofNat 32 j.1 := by
      intro e
      have := congrArg BitVec.toNat e
      simp only [BitVec.toNat_ofNat] at this
      omega
    have h3 : (BitVec.ofNat 32 i.1 == BitVec.ofNat 32 j.1) = false := beq_eq_false_iff_ne.mpr h2
    simp [h, h3, IntOp.cmpi, Scalar.select]

/-- The polynomial of a Gram matrix. -/
theorem pay36_is {a b : Vec Ideal S1024x1024 .f32} {A : Mat 1024 1024} (ha : Is2 a A) (hb : Is2 b (A * A)) :
    Is2 (k0_pay36 k0_pay22 a b) (poly A) := by
  intro i j
  pointwise [k0_pay36]
  simp only [ha _ _, hb _ _, pay22_is i j, lit_b, lit_c, ← EReal.coe_mul, ← EReal.coe_add]
  rfl

/-- The product of the factors times the momentum, divided by the norm. -/
theorem pay52_is {r : Ideal .f32} {c : Vec Ideal S1024x1024 .f32} {s : Vec Ideal S1024x2048 .f32} {R : ℝ} {C : Mat 1024 1024}
    {S : Mat 1024 2048} (hr : r = ((R : ℝ) : EReal)) (hc : Is2 c C) (hs : Is2 s S) : Is2 (k0_pay52 r c s) (R • (C * S)) := by
  intro i j
  subst hr
  pointwise [k0_pay52]
  simp only [hc _ _, hs _ _, ← EReal.coe_mul, up_sum]
  rfl

end Cert.Scan

end
-- ==== Proof.RefA.lean ====
/- One trip of the reference's loop over the real numbers: the chunk's samples and their gradients. -/
module

public import proofs.«01_k».proof.Proof.Pay
public import proofs.«01_k».proof.Proof.Gen.ReferenceIdeal.Run
public import Idealize.ShloMosaic.Lib.DynamicIndex
public import Idealize.ShloMosaic.Lib.WordCmp

@[expose] public section

noncomputable section

namespace Cert.Scan

open Idealize.ShloMosaic Cert.ReferenceIdeal Cert.ReferenceIdeal.Gen Cert.ReferenceIdeal.Value Matrix

/-- A chunk of the samples, read at the counter. -/
theorem chunk {d : ℕ} {n : ℕ} (hn : n < 32) (x : FVec Ideal ⟨4, ![32, 2, 32, d]⟩ .f32) (st : Fin 4 → Int)
    (h : (⟨4, ![32, 2, 32, d]⟩ : Shape).Slices (fun _ => 0) ⟨4, ![1, 2, 32, d]⟩) (e : ∀ a, st a = (![n, 0, 0, 0] a : ℕ))
    (b : Fin 2) (c : Fin 32) (j : Fin d) :
    Host.dynamicSlice ⟨4, ![1, 2, 32, d]⟩ x st h (ix4 0 b c j) = x (ix4 ⟨n, hn⟩ b c j) := by
  rw [Host.dynamicSlice_eq_extractStridedSlice _ x st ![n, 0, 0, 0] h ⟨rfl, fun a => by fin_cases a <;> simp <;> omega⟩ e]
  pointwise
  refine congrArg x (funext fun a => ?_)
  fin_cases a
  · exact Fin.ext (Nat.add_zero _)
  all_goals exact Fin.ext (Nat.zero_add _)

/-- A chunk's number, read at the counter. -/
theorem chunk1 {n : ℕ} (hn : n < 32) (x : FVec Ideal ⟨1, ![32]⟩ .f32) (st : Fin 1 → Int)
    (h : (⟨1, ![32]⟩ : Shape).Slices (fun _ => 0) ⟨1, ![1]⟩) (e : ∀ a, st a = (![n] a : ℕ)) :
    Host.dynamicSlice ⟨1, ![1]⟩ x st h (ix1 0) = x (ix1 ⟨n, hn⟩) := by
  rw [Host.dynamicSlice_eq_extractStridedSlice _ x st ![n] h ⟨rfl, fun a => by fin_cases a <;> simp <;> omega⟩ e]
  pointwise

/-- The chunk's place as the loop's slices take it. -/
theorem start4 (n : ℕ) (hn : n < 32) (a : Fin 4) :
    (((![fun _ => BitVec.ofNat 32 n, constantI S_ 32 0#32, constantI S_ 32 0#32, constantI S_ 32 0#32] : Fin 4 → IVec S_ 32) a
      (Shape.Idx.first h_S_)).toInt) = (![n, 0, 0, 0] a : ℕ) := by
  fin_cases a
  · exact toInt_ofNat_of_lt (by omega)
  all_goals rfl

/-- The chunk's place in a row of numbers. -/
theorem start1 (n : ℕ) (hn : n < 32) (a : Fin 1) :
    (((![fun _ => BitVec.ofNat 32 n] : Fin 1 → IVec S_ 32) a (Shape.Idx.first h_S_)).toInt) = (![n] a : ℕ) := by
  fin_cases a
  exact toInt_ofNat_of_lt (by omega)

/-- What a trip starts from: the counter, the chunk's samples and numbers, the memory and the output weights. -/
structure Trip (V0 : Valuation τ sig (Elt Ideal)) (n : ℕ) (hn : n < 32) (Q K V : Mat 64 1024) (p : Fin 3 → ℝ) (s : St)
    (O : Mat 1024 512) : Prop where
  ctr : V0 (Proc.devRef .tc main_v12_7) = fun _ => BitVec.ofNat 32 n
  q : ∀ (b : Fin 2) (c : Fin 32) j, V0 (Proc.devRef .tc main_v12_0) (ix4 ⟨n, hn⟩ b c j) = ((Q ⟨32 * b.1 + c.1, by omega⟩ j : ℝ) : EReal)
  k : ∀ (b : Fin 2) (c : Fin 32) j, V0 (Proc.devRef .tc main_v12_1) (ix4 ⟨n, hn⟩ b c j) = ((K ⟨32 * b.1 + c.1, by omega⟩ j : ℝ) : EReal)
  v : ∀ (b : Fin 2) (c : Fin 32) j, V0 (Proc.devRef .tc main_v12_2) (ix4 ⟨n, hn⟩ b c j) = ((V ⟨32 * b.1 + c.1, by omega⟩ j : ℝ) : EReal)
  l : V0 (Proc.devRef .tc main_v12_3) (ix1 ⟨n, hn⟩) = ((p 0 : ℝ) : EReal)
  m : V0 (Proc.devRef .tc main_v12_4) (ix1 ⟨n, hn⟩) = ((p 1 : ℝ) : EReal)
  d : V0 (Proc.devRef .tc main_v12_5) (ix1 ⟨n, hn⟩) = ((p 2 : ℝ) : EReal)
  o : Is2 (V0 (Proc.devRef .tc main_v12_6)) O
  w : Is2 (V0 (Proc.devRef .tc main_v12_8)) s.W
  u : Is2 (V0 (Proc.devRef .tc main_v12_9)) s.Uᵀ
  mW : Is2 (V0 (Proc.devRef .tc main_v12_10)) s.S
  mU : Is2 (V0 (Proc.devRef .tc main_v12_11)) s.Tᵀ

/-- The samples as one-row matrices. -/
def IsR {d : ℕ} (v : FVec Ideal ⟨3, ![64, 1, d]⟩ .f32) (M : Mat 64 d) : Prop := ∀ i j, v (ix3 i 0 j) = ((M i j : ℝ) : EReal)

/-- A chunk's samples, one after another. -/
theorem rows {X : Vec Ideal S1x2x32x1024 .f32} {K : Mat 64 1024}
    (h : ∀ (b : Fin 2) (c : Fin 32) j, X (ix4 0 b c j) = ((K ⟨32 * b.1 + c.1, by omega⟩ j : ℝ) : EReal)) :
    IsR (broadcastInDim S64x1x1024 ![0, 2] bcast_S64x1024_S64x1x1024_0_2 (shapeCast S64x1024
      (shapeCast S2x32x1024 X shapeCasts_S1x2x32x1024_S2x32x1024) shapeCasts_S2x32x1024_S64x1024)) K := by
  intro i j
  pointwise
  rw [h]
  refine congrArg (fun r : Fin 64 => ((K r j : ℝ) : EReal)) (Fin.ext ?_)
  show 32 * (i.1 / 32) + i.1 % 32 = i.1
  omega

/-- A sum of one term. -/
theorem one_term (f : Fin 1 → EReal) : ∑ x, f x = f 0 := Fin.sum_univ_one f

/-- One number out of a row of one. -/
theorem only (X : Vec Ideal S1 .f32) : shapeCast S_ X shapeCasts_S1_S_ ix0 = X (ix1 0) := by
  pointwise

section
variable {V0 : Valuation τ sig (Elt Ideal)} {n : ℕ} {hn : n < 32} {Q K V : Mat 64 1024} {p : Fin 3 → ℝ} {s : St} {O : Mat 1024 512}
  (h : Trip V0 n hn Q K V p s O)
include h

/-- The keys. -/
theorem v33_is : IsR (res_main_while0b_v33 V0) K := by
  unfold res_main_while0b_v33
  rw [h.ctr]
  exact rows fun b c j => (chunk hn _ _ _ (start4 n hn) b c j).trans (h.k b c j)

/-- The chunk's first number. -/
theorem v17_is : res_main_while0b_v17 V0 ix0 = ((p 0 : ℝ) : EReal) := by
  unfold res_main_while0b_v17
  rw [h.ctr]
  exact (only _).trans ((chunk1 hn _ _ sliceFits_S32_S1 (start1 n hn)).trans h.l)

/-- The chunk's second number. -/
theorem v18_is : res_main_while0b_v18 V0 ix0 = ((p 1 : ℝ) : EReal) := by
  unfold res_main_while0b_v18
  rw [h.ctr]
  exact (only _).trans ((chunk1 hn _ _ sliceFits_S32_S1 (start1 n hn)).trans h.m)

/-- The chunk's third number. -/
theorem v19_is : res_main_while0b_v19 V0 ix0 = ((p 2 : ℝ) : EReal) := by
  unfold res_main_while0b_v19
  rw [h.ctr]
  exact (only _).trans ((chunk1 hn _ _ sliceFits_S32_S1 (start1 n hn)).trans h.d)

/-- The keys times the first layer. -/
theorem v35_is : IsR (res_main_while0b_v35 V0) (K * s.W) := by
  intro i j
  pointwise [res_main_while0b_v35]
  simp only [v33_is h _ _, h.w _ _, ← EReal.coe_mul, up_sum]
  rfl

/-- Half of it. -/
theorem v37_is : IsR (res_main_while0b_v37 V0) fun i j => 1 / 2 * (K * s.W) i j := by
  intro i j
  pointwise [res_main_while0b_v37]
  simp only [v35_is h _ _, lit_half, ← EReal.coe_mul]

omit h in
/-- The root of a half. -/
theorem v39_is : res_main_while0b_v39 V0 ix0 = ((Real.sqrt (1 / 2) : ℝ) : EReal) := by
  pointwise [res_main_while0b_v39]
  rw [lit_half, up_sqrt _ (by norm_num)]

/-- The error function's argument, negated. -/
theorem v41_is : IsR (res_main_while0b_v41 V0) fun i j => -(K * s.W) i j * Real.sqrt (1 / 2) := by
  intro i j
  pointwise [res_main_while0b_v41]
  simp only [v35_is h _ _, v39_is, ← EReal.coe_mul, ← EReal.coe_neg]

/-- One minus the error function there. -/
theorem v44_is : IsR (res_main_while0b_v44 V0) fun i j => 1 - erfR (-(K * s.W) i j * Real.sqrt (1 / 2)) := by
  intro i j
  pointwise [res_main_while0b_v44]
  simp only [v41_is h _ _, up_erfc]

/-- The hidden layer. -/
theorem v51_is : IsR (res_main_while0b_v51 V0) (hid (K * s.W)) := by
  intro i j
  pointwise [res_main_while0b_v51]
  simp only [v37_is h _ _, v44_is h _ _, ← EReal.coe_mul]
  exact congrArg Real.toEReal (act_ref _)

/-- The answer less the value. -/
theorem v53_is : IsR (res_main_while0b_v53 V0) fun i j => (hid (K * s.W) * s.Uᵀ) i j - V i j := by
  have hv : IsR _ V := rows fun b c j => (chunk hn (V0 (Proc.devRef .tc main_v12_2)) _ sliceFits_S32x2x32x1024_S1x2x32x1024 (start4 n hn) b c j).trans (h.v b c j)
  intro i j
  unfold res_main_while0b_v53
  rw [h.ctr]
  refine (congrArg₂ (· - ·) ?_ (hv i j)).trans (EReal.coe_sub _ _).symm
  pointwise
  simp only [v51_is h _ _, h.u _ _, ← EReal.coe_mul, up_sum]
  rfl

/-- The loss's derivative. -/
theorem v61_is : IsR (res_main_while0b_v61 V0) (del (hid (K * s.W) * s.Uᵀ) V) := by
  intro i j
  pointwise [res_main_while0b_v61]
  simp only [v53_is h _ _, lit_two, ← EReal.coe_mul, one_mul]
  rfl

/-- The loss's derivative through the second layer. -/
theorem v64_is : IsR (res_main_while0b_v64 V0) (del (hid (K * s.W) * s.Uᵀ) V * s.U) := by
  intro i j
  pointwise [res_main_while0b_v64]
  simp only [v61_is h _ _, h.u _ _, ← EReal.coe_mul, up_sum]
  rfl

/-- Each sample's gradient of the second layer. -/
theorem v63_is (i : Fin 64) (a : Fin 2048) (b : Fin 1024) : res_main_while0b_v63 V0 (ix3 i a b)
    = ((hid (K * s.W) i a * del (hid (K * s.W) * s.Uᵀ) V i b : ℝ) : EReal) := by
  pointwise [res_main_while0b_v63]
  refine (one_term _).trans ?_
  exact (congrArg₂ (· * ·) (v61_is h i b) (v51_is h i a)).trans ((EReal.coe_mul _ _).symm.trans (congrArg Real.toEReal (mul_comm _ _)))

omit h in
/-- The error function's slope at zero, negated. -/
theorem slope : Ideal.div (Ideal.ofBits .f32 0xC0000000#32) (Ideal.sqrt (Ideal.atan2 0 (Ideal.ofBits .f32 0xBF800000#32)))
    = ((-2 / Real.sqrt Real.pi : ℝ) : EReal) := by
  rw [lit_neg_two, lit_neg_one, up_zero, up_half_turn, up_sqrt _ Real.pi_pos.le, up_div _ _ (Real.sqrt_pos.2 Real.pi_pos).ne']

/-- Each sample's gradient of the first layer. -/
theorem v75_is (i : Fin 64) (a : Fin 1024) (b : Fin 2048) : res_main_while0b_v75 V0 (ix3 i a b)
    = ((K i a * pre (del (hid (K * s.W) * s.Uᵀ) V) s.U (K * s.W) i b : ℝ) : EReal) := by
  have e41 := v41_is h i b
  have e37 := v37_is h i b
  have e64 := v64_is h i b
  have e44 := v44_is h i b
  have e33 := v33_is h i a
  pointwise [res_main_while0b_v75]
  refine (one_term _).trans ?_
  rw [slope, e41, e37, e64, v39_is, e44, e33, lit_half]
  simp only [← EReal.coe_mul, ← EReal.coe_neg, ← EReal.coe_add, up_exp]
  exact congrArg Real.toEReal ((mul_comm _ _).trans (congrArg (K i a * ·) (dact_ref _ _)))

end
end Cert.Scan

end
-- ==== Proof.RefB.lean ====
/- One trip of the reference's loop over the real numbers: the momenta. -/
module

public import proofs.«01_k».proof.Proof.RefA

@[expose] public section

noncomputable section

namespace Cert.Scan

open Idealize.ShloMosaic Cert.ReferenceIdeal Cert.ReferenceIdeal.Gen Cert.ReferenceIdeal.Value Matrix

/-- A matrix's entries summed row after row. -/
theorem flat_sum {A B N : ℕ} (hN : N = A * B) (F : Fin A → Fin B → ℝ) (h1 : ∀ q : Fin N, q.1 / B < A) (h2 : ∀ q : Fin N, q.1 % B < B) :
    ∑ q : Fin N, F ⟨q.1 / B, h1 q⟩ ⟨q.1 % B, h2 q⟩ = ∑ a, ∑ b, F a b := by
  subst hN
  exact (Fintype.sum_equiv finProdFinEquiv.symm _ (fun p : Fin A × Fin B => F p.1 p.2) fun q => rfl).trans (Fintype.sum_prod_type _)

/-- The squares of an outer product's entries. -/
theorem outer_sq {A B : ℕ} (x : Fin A → ℝ) (y : Fin B → ℝ) :
    ∑ a, ∑ b, x a * y b * (x a * y b) = (∑ a, x a * x a) * ∑ b, y b * y b := by
  rw [Finset.sum_mul_sum]
  exact Finset.sum_congr rfl fun a _ => Finset.sum_congr rfl fun b _ => by ring

/-- A gradient's entry. -/
theorem grad_at {A B : ℕ} (N : Fin 64 → ℝ) (x : Mat 64 A) (y : Mat 64 B) (a : Fin A) (b : Fin B) :
    grad N x y a b = ∑ i, x i a * wt N i * y i b := rfl

/-- A difference of two products of real numbers. -/
theorem up_mom {m s l g : ℝ} {a b c d : EReal} (ha : a = (m : EReal)) (hb : b = (s : EReal)) (hc : c = (l : EReal))
    (hd : d = (g : EReal)) : a * b - c * d = ((m * s - l * g : ℝ) : EReal) := by
  rw [ha, hb, hc, hd, ← EReal.coe_mul, ← EReal.coe_mul, ← EReal.coe_sub]

/-- A gradient with the two factors exchanged. -/
theorem grad_flip {A B : ℕ} (N : Fin 64 → ℝ) (x : Mat 64 A) (y : Mat 64 B) (a : Fin A) (b : Fin B) :
    grad N x y a b = grad N y x b a := by
  rw [grad_at, grad_at]
  exact Finset.sum_congr rfl fun i _ => by ring

/-- A sample's norm with the two factors exchanged is the norm of its whole gradient, floored. -/
theorem whole_norm {A B N : ℕ} (hN : N = A * B) (x : Mat 64 A) (y : Mat 64 B) (i : Fin 64) (h1 : ∀ q : Fin N, q.1 / B < A)
    (h2 : ∀ q : Fin N, q.1 % B < B) :
    max (Real.sqrt (∑ q : Fin N, x i ⟨q.1 / B, h1 q⟩ * y i ⟨q.1 % B, h2 q⟩ * (x i ⟨q.1 / B, h1 q⟩ * y i ⟨q.1 % B, h2 q⟩))) eps8
      = nrm x y i := by
  rw [flat_sum hN (fun a b => x i a * y i b * (x i a * y i b)) h1 h2, outer_sq,
    Real.sqrt_mul (Finset.sum_nonneg fun _ _ => mul_self_nonneg _), nrm]

/-- The mean of the clipped gradients as the reference writes it. -/
theorem clipped {A B N : ℕ} (hN : N = A * B) (g : Fin 64 → Fin A → Fin B → EReal) {x : Mat 64 A} {y : Mat 64 B}
    (hg : ∀ i a b, g i a b = ((x i a * y i b : ℝ) : EReal)) (h1 : ∀ q : Fin N, q.1 / B < A) (h2 : ∀ q : Fin N, q.1 % B < B)
    (a : Fin A) (b : Fin B) :
    Ideal.div (∑ i, Ideal.div (g i a b) (max (Ideal.div (max (Ideal.sqrt (∑ q : Fin N,
        g i ⟨q.1 / B, h1 q⟩ ⟨q.1 % B, h2 q⟩ * g i ⟨q.1 / B, h1 q⟩ ⟨q.1 % B, h2 q⟩)) (Ideal.ofBits .f32 0x322BCC77#32))
        (Ideal.ofBits .f32 0x41200000#32)) 1)) (Ideal.ofBits .f32 0x42800000#32)
      = ((grad (nrm x y) x y a b : ℝ) : EReal) := by
  have e : ∀ i, Ideal.div (g i a b) (max (Ideal.div (max (Ideal.sqrt (∑ q : Fin N,
        g i ⟨q.1 / B, h1 q⟩ ⟨q.1 % B, h2 q⟩ * g i ⟨q.1 / B, h1 q⟩ ⟨q.1 % B, h2 q⟩)) (Ideal.ofBits .f32 0x322BCC77#32))
        (Ideal.ofBits .f32 0x41200000#32)) 1) = ((x i a * y i b / max (nrm x y i / 10) 1 : ℝ) : EReal) := by
    intro i
    simp only [hg, ← EReal.coe_mul]
    rw [up_sum, up_norm, lit_eps8, up_max, whole_norm hN x y i h1 h2, lit_ten, up_tenth, up_one, up_max, up_div_max]
  simp only [e]
  rw [up_sum, lit_64, up_div _ _ (by norm_num)]
  refine congrArg Real.toEReal ?_
  rw [grad_at, Finset.sum_div]
  exact Finset.sum_congr rfl fun i _ => by rw [wt]; ring

section
variable {V0 : Valuation τ sig (Elt Ideal)} {n : ℕ} {hn : n < 32} {Q K V : Mat 64 1024} {p : Fin 3 → ℝ} {s : St} {O : Mat 1024 512}
  (h : Trip V0 n hn Q K V p s O)
include h

/-- The first momentum. -/
theorem v108_is : Is2 (res_main_while0b_v108 V0) (mom (p 1) (p 0) s.S (gradW K V s)) := by
  intro a b
  have f := clipped (N := 2097152) (by norm_num) (fun i a b => res_main_while0b_v75 V0 (ix3 i a b)) (v75_is h)
    (fun q => by omega) (fun q => by omega) a b
  pointwise [res_main_while0b_v108, res_main_while0b_v76]
  exact up_mom (v18_is h) (h.mW a b) (v17_is h) f

/-- The second momentum. -/
theorem v113_is : Is2 (res_main_while0b_v113 V0) (mom (p 1) (p 0) s.T (gradU K V s))ᵀ := by
  intro a b
  have f := (clipped (N := 2097152) (by norm_num) (fun i a b => res_main_while0b_v63 V0 (ix3 i a b)) (v63_is h)
    (fun q => by omega) (fun q => by omega) a b).trans (congrArg Real.toEReal (grad_flip _ _ _ a b))
  pointwise [res_main_while0b_v113, res_main_while0b_v90]
  exact up_mom (v18_is h) (h.mU a b) (v17_is h) f

end
end Cert.Scan

end
-- ==== Proof.RefC.lean ====
/- One trip of the reference's loop over the real numbers: the orthogonal step. -/
module

public import proofs.«01_k».proof.Proof.RefA

@[expose] public section

noncomputable section

namespace Cert.Scan

open Idealize.ShloMosaic Cert.ReferenceIdeal Cert.ReferenceIdeal.Gen Cert.ReferenceIdeal.Value Matrix

/-- A matrix times its transpose. -/
theorem gram_is {x : FVec Ideal S1024x2048 .f32} {X : Mat 1024 2048} (hx : Is2 x X) :
    Is2 (Host.dotGeneral dot_S1024x2048_S2048x1024_S1024x1024_1_0_0_1_n_n none x
      (transpose S2048x1024 [1, 0] x transposes_S1024x2048_S2048x1024_1_0)) (X * Xᵀ) := by
  intro i j
  pointwise
  simp only [hx _ _, ← EReal.coe_mul, up_sum]
  rfl

/-- One step of the iteration. -/
theorem ns_is {x : FVec Ideal S1024x2048 .f32} {a : FVec Ideal S1024x1024 .f32} {X : Mat 1024 2048} (hx : Is2 x X)
    (ha : Is2 a (X * Xᵀ)) :
    Is2 (addf (mulf (broadcastInDim S1024x2048 ![] bcast_S_S1024x2048 (constant S_ .f32 0x405C72B0#32)) x)
      (Host.dotGeneral dot_S1024x1024_S1024x2048_S1024x2048_1_0_0_1_n_n none
        (addf (mulf (broadcastInDim S1024x1024 ![] bcast_S_S1024x1024 (constant S_ .f32 0xC098CCCD#32)) a)
          (mulf (broadcastInDim S1024x1024 ![] bcast_S_S1024x1024 (constant S_ .f32 0x40020419#32))
            (Host.dotGeneral dot_S1024x1024_S1024x1024_S1024x1024_1_0_0_1_n_n none a a))) x)) (stepX X) := by
  intro i j
  pointwise
  simp only [hx _ _, ha _ _, lit_a, lit_b, lit_c, ← EReal.coe_mul, up_sum, ← EReal.coe_add]
  rfl

/-- A matrix divided by its norm. -/
theorem unit_is {x : FVec Ideal S1024x2048 .f32} {X : Mat 1024 2048} (hx : Is2 x X) :
    Is2 (Host.divf x (broadcastInDim S1024x2048 ![] bcast_S_S1024x2048 (addf (Host.sqrt (Host.reduceAdd (mulf x x)
      (constant S_ .f32 0x00000000#32) reducesTo_S1024x2048_S_d0_1 h_S_)) (constant S_ .f32 0x33D6BF95#32)))) (unit X) := by
  intro i j
  pointwise
  simp only [hx _ _, ← EReal.coe_mul, up_sum]
  have e := up_sqrt _ (sq_nonneg X)
  unfold sq at e
  rw [e, lit_eps7, ← EReal.coe_add]
  exact up_div _ _ (norm_pos X).ne'

variable {V0 : Valuation τ sig (Elt Ideal)}

/-- The first momentum's orthogonal part. -/
theorem first_is {S : Mat 1024 2048} (h : Is2 (res_main_while0b_v108 V0) S) :
    Is2 (res_main_while0b_v168 V0) (stepX (stepX (stepX (stepX (unit S))))) := by
  have h0 : Is2 (res_main_while0b_v120 V0) _ := unit_is h
  have h1 : Is2 (res_main_while0b_v132 V0) _ := ns_is h0 (gram_is h0)
  have h2 : Is2 (res_main_while0b_v144 V0) _ := ns_is h1 (gram_is h1)
  have h3 : Is2 (res_main_while0b_v156 V0) _ := ns_is h2 (gram_is h2)
  exact ns_is h3 (gram_is h3)

/-- The second momentum's orthogonal part. -/
theorem second_is {T : Mat 1024 2048} (h : Is2 (res_main_while0b_v187 V0) T) :
    Is2 (res_main_while0b_v239 V0) (stepX (stepX (stepX (stepX (unit T))))) := by
  have h0 : Is2 (res_main_while0b_v191 V0) _ := unit_is h
  have h1 : Is2 (res_main_while0b_v203 V0) _ := ns_is h0 (gram_is h0)
  have h2 : Is2 (res_main_while0b_v215 V0) _ := ns_is h1 (gram_is h1)
  have h3 : Is2 (res_main_while0b_v227 V0) _ := ns_is h2 (gram_is h2)
  exact ns_is h3 (gram_is h3)

end Cert.Scan

end
-- ==== Proof.RefD.lean ====
/- One trip of the reference's loop over the real numbers: what it leaves. -/
module

public import proofs.«01_k».proof.Proof.RefB
public import proofs.«01_k».proof.Proof.RefC

@[expose] public section

noncomputable section

namespace Cert.Scan

open Idealize.ShloMosaic Cert.ReferenceIdeal Cert.ReferenceIdeal.Gen Cert.ReferenceIdeal.Value Matrix

/-- A wide matrix transposed. -/
theorem flip_is {x : FVec Ideal S1024x2048 .f32} {X : Mat 1024 2048} (hx : Is2 x X) :
    Is2 (transpose S2048x1024 [1, 0] x transposes_S1024x2048_S2048x1024_1_0) Xᵀ := by
  intro i j
  pointwise
  exact hx j i

/-- A tall matrix transposed. -/
theorem flop_is {x : FVec Ideal S2048x1024 .f32} {X : Mat 1024 2048} (hx : Is2 x Xᵀ) :
    Is2 (transpose S1024x2048 [1, 0] x transposes_S2048x1024_S1024x2048_1_0) X := by
  intro i j
  pointwise
  exact hx j i

/-- The weights' update over the real numbers. -/
theorem up_wts {d w n l : ℝ} {a b c e : EReal} (ha : a = (d : EReal)) (hb : b = (w : EReal)) (hc : c = (n : EReal))
    (he : e = (l : EReal)) : (1 - a) * b + c * e = (((1 - d) * w + l * n : ℝ) : EReal) := by
  rw [ha, hb, hc, he, up_one, ← EReal.coe_sub, ← EReal.coe_mul, ← EReal.coe_mul, ← EReal.coe_add, mul_comm n l]

/-- A chunk's samples by batch entry and place. -/
theorem grid {X : Vec Ideal S1x2x32x1024 .f32} {K : Mat 64 1024}
    (h : ∀ (b : Fin 2) (c : Fin 32) j, X (ix4 0 b c j) = ((K ⟨32 * b.1 + c.1, by omega⟩ j : ℝ) : EReal)) (b : Fin 2) (c : Fin 32)
    (j : Fin 1024) : shapeCast S2x32x1024 X shapeCasts_S1x2x32x1024_S2x32x1024 (ix3 b c j) = ((K ⟨32 * b.1 + c.1, by omega⟩ j : ℝ) : EReal) := by
  pointwise
  rw [h]

/-- A row of the results written at the counter. -/
theorem written {n : ℕ} (hn : n < 32) (x : FVec Ideal S32x2x32x512 .f32) (y : FVec Ideal S1x2x32x512 .f32) (st : Fin 4 → Int)
    (e : ∀ a, st a = (![n, 0, 0, 0] a : ℕ)) (a : Fin 32) (b : Fin 2) (c : Fin 32) (j : Fin 512) :
    Host.dynamicUpdateSlice x y st updateFits_S32x2x32x512_S1x2x32x512 (ix4 a b c j) = if a.1 = n then y (ix4 0 b c j) else x (ix4 a b c j) := by
  rw [WordCmp.dynamicUpdateSlice_eq_update x y st _ ![n, 0, 0, 0] ⟨rfl, fun a => by fin_cases a <;> simp <;> omega⟩ e]
  refine (updateSlice_apply x y _ _ _).trans ?_
  by_cases hq : a.1 = n
  · have hin : ∀ i : Fin 4, (![n, 0, 0, 0] : Fin 4 → ℕ) i ≤ ((ix4 a b c j) i).val ∧ ((ix4 a b c j) i).val < (![n, 0, 0, 0] : Fin 4 → ℕ) i + S1x2x32x512.size i := by
      intro i
      fin_cases i
      · exact ⟨le_of_eq hq.symm, by show a.1 < n + 1; omega⟩
      · exact ⟨Nat.zero_le _, by show b.1 < 0 + 2; omega⟩
      · exact ⟨Nat.zero_le _, by show c.1 < 0 + 32; omega⟩
      · exact ⟨Nat.zero_le _, by show j.1 < 0 + 512; omega⟩
    rw [if_pos hq]
    refine (dif_pos hin).trans ?_
    refine congrArg y (funext fun i => ?_)
    fin_cases i
    · exact Fin.ext (by show a.1 - n = 0; omega)
    all_goals exact Fin.ext (Nat.sub_zero _)
  · rw [if_neg hq]
    refine dif_neg ?_
    intro hall
    have h0 := hall 0
    have h1 : n ≤ a.1 := h0.1
    have h2 : a.1 < n + 1 := h0.2
    omega

section
variable {V0 : Valuation τ sig (Elt Ideal)} {n : ℕ} {hn : n < 32} {Q K V : Mat 64 1024} {p : Fin 3 → ℝ} {s : St} {O : Mat 1024 512}
  (h : Trip V0 n hn Q K V p s O)
include h

/-- The counter goes up. -/
theorem next_ctr : step_main_v12_7 V0 = fun _ => BitVec.ofNat 32 (n + 1) := by
  unfold step_main_v12_7
  rw [h.ctr]
  funext i
  show BitVec.ofNat 32 n + 1#32 = BitVec.ofNat 32 (n + 1)
  rw [BitVec.ofNat_add]

/-- The first momentum. -/
theorem next_S : Is2 (step_main_v12_10 V0) (step K V (p 0) (p 1) (p 2) s).S := v108_is h

/-- The second momentum. -/
theorem next_T : Is2 (step_main_v12_11 V0) (step K V (p 0) (p 1) (p 2) s).Tᵀ := v113_is h

/-- The first layer. -/
theorem next_W : Is2 (step_main_v12_8 V0) (step K V (p 0) (p 1) (p 2) s).W := by
  have hx := first_is (v108_is h)
  have hN := ns_is hx (gram_is hx)
  intro i j
  refine Eq.trans ?_ (up_wts (v19_is h) (h.w i j) (hN i j) (v17_is h))
  unfold step_main_v12_8
  refine congrArg₂ (· + ·) (congrArg₂ (· * ·) ?_ rfl) (congrArg₂ (· * ·) rfl ?_)
  · pointwise
  · pointwise

/-- The second layer. -/
theorem next_U : Is2 (step_main_v12_9 V0) (step K V (p 0) (p 1) (p 2) s).Uᵀ := by
  have hx := second_is (flop_is (v113_is h))
  have hN := flip_is (ns_is hx (gram_is hx))
  intro i j
  refine Eq.trans ?_ (up_wts (v19_is h) (h.u i j) (hN i j) (v17_is h))
  unfold step_main_v12_9
  refine congrArg₂ (· + ·) (congrArg₂ (· * ·) ?_ rfl) (congrArg₂ (· * ·) rfl ?_)
  · pointwise
  · pointwise

/-- The queries times the first layer. -/
theorem v20_is (b : Fin 2) (c : Fin 32) (j : Fin 2048) :
    res_main_while0b_v20 V0 (ix3 b c j) = (((Q * s.W) ⟨32 * b.1 + c.1, by omega⟩ j : ℝ) : EReal) := by
  have hq := grid fun b c j => (chunk hn (V0 (Proc.devRef .tc main_v12_0)) _ sliceFits_S32x2x32x1024_S1x2x32x1024 (start4 n hn) b c j).trans (h.q b c j)
  unfold res_main_while0b_v20
  rw [h.ctr]
  generalize shapeCast S2x32x1024 _ _ = X at hq ⊢
  pointwise
  simp only [hq _ _ _, h.w _ _, ← EReal.coe_mul, up_sum]
  rfl

/-- The answers. -/
theorem next_R (a : Fin 32) (b : Fin 2) (c : Fin 32) (j : Fin 512) : step_main_v12_12 V0 (ix4 a b c j)
    = if a.1 = n then ((answer Q s O ⟨32 * b.1 + c.1, by omega⟩ j : ℝ) : EReal) else V0 (Proc.devRef .tc main_v12_12) (ix4 a b c j) := by
  unfold step_main_v12_12
  rw [h.ctr]
  refine (written hn _ _ _ (start4 n hn) a b c j).trans ?_
  refine if_congr Iff.rfl ?_ rfl
  pointwise
  simp only [v20_is h _ _ _, h.u _ _, h.o _ _, lit_half, up_sqrt (1 / 2) (by norm_num), ← EReal.coe_mul, ← EReal.coe_neg, up_erfc, act_ref, up_sum]
  rfl

end
end Cert.Scan

end
-- ==== Proof.Chain.lean ====
/- The kernel's orthogonal step: its stored values, from the last to the first. -/
module

public import proofs.«01_k».proof.Proof.Pay
public import proofs.«01_k».proof.Proof.Gen.KernelIdeal.Frame

@[expose] public section

noncomputable section

namespace Cert.Scan

open Idealize.ShloMosaic Cert.KernelIdeal Cert.KernelIdeal.Gen Matrix

/-- The first layer's gradient, from the blocks. -/
theorem gradW_is {q k v : Vec Ideal S1x64x1024 .f32} {w u : Vec Ideal S1024x2048 .f32} {Q K V : Mat 64 1024} {s : St}
    (hq : IsB q Q) (hk : IsB k K) (hv : IsB v V) (hw : Is2 w s.W) (hu : Is2 u s.U) :
    Is2 (k0_pay17 (k0_pay5 k) (k0_pay12 (k0_pay6 k q w) (k0_pay8 k q w u) v u)
      (k0_pay13 (k0_pay5 k) (k0_pay6 k q w) (k0_pay8 k q w u) v u)) (gradW K V s) := by
  have h6 := pay6_is hk hq hw
  have h8 := pay8_is (pay7_is h6) hu
  have h12 := pay12_is h6 (pay11_is h8 hv) hu
  have h := pay17_is (pay5_is hk) h12 (pay13_is (pay5_is hk) h12)
  rw [lower_mul, lower_mul, lower_hid, lower_mul, lower_cat] at h
  exact h

/-- The second layer's gradient, from the blocks. -/
theorem gradU_is {q k v : Vec Ideal S1x64x1024 .f32} {w u : Vec Ideal S1024x2048 .f32} {Q K V : Mat 64 1024} {s : St}
    (hq : IsB q Q) (hk : IsB k K) (hv : IsB v V) (hw : Is2 w s.W) (hu : Is2 u s.U) :
    Is2 (k0_pay54 (k0_pay10 (k0_pay7 k q w)) (k0_pay11 (k0_pay8 k q w u) v)
      (k0_pay16 (k0_pay14 (k0_pay7 k q w)) (k0_pay15 (k0_pay8 k q w u) v))) (gradU K V s) := by
  have h7 := pay7_is (pay6_is hk hq hw)
  have h10 := pay10_is h7
  have h11 := pay11_is (pay8_is h7 hu) hv
  have h := pay54_is h10 h11 (pay16_is h10 h11)
  rw [lower_mul, lower_hid, lower_mul, lower_cat] at h
  exact h

/-- The answers, from the blocks. -/
theorem answer_is {q k : Vec Ideal S1x64x1024 .f32} {w u : Vec Ideal S1024x2048 .f32} {o : Vec Ideal S1024x512 .f32}
    {Q K : Mat 64 1024} {O : Mat 1024 512} {s : St}
    (hq : IsB q Q) (hk : IsB k K) (hw : Is2 w s.W) (hu : Is2 u s.U) (ho : Is2 o O) :
    Is4 (k0_pay9 k q w u o) fun a _ c j => answer Q s O ⟨32 * a.1 + c.1, by omega⟩ j := by
  have h := pay9_is (pay8_is (pay7_is (pay6_is hk hq hw)) hu) ho
  rw [upper_mul, upper_hid, upper_mul, upper_cat] at h
  exact h

/-- A square block. -/
abbrev Sq := Vec Ideal S1024x1024 .f32
/-- A weight block. -/
abbrev Wd := Vec Ideal S1024x2048 .f32

/-- One factor more. -/
theorem c_step {a aa b t c c' : Sq} {C : Mat 1024 1024} {x : Mat 1024 2048}
    (e1 : c' = k0_pay26 t) (e2 : t = k0_pay23 b c) (e3 : b = k0_pay36 k0_pay22 a aa) (e4 : aa = k0_pay23 a a)
    (ha : Is2 a (x * xᵀ)) (hc : Is2 c C) : Is2 c' (fac x * C) := by
  subst e1 e2 e3 e4
  exact pay26_is (pay23_is (pay36_is ha (pay23_is ha ha)) hc)

/-- The first factor. -/
theorem c_first {a aa b c : Sq} {x : Mat 1024 2048} (e1 : c = k0_pay26 b) (e3 : b = k0_pay36 k0_pay22 a aa)
    (e4 : aa = k0_pay23 a a) (ha : Is2 a (x * xᵀ)) : Is2 c (fac x) := by
  subst e1 e3 e4
  exact pay26_is (pay36_is ha (pay23_is ha ha))

/-- The next Gram matrix. -/
theorem a_step {a aa b b' ba a' : Sq} {x : Mat 1024 2048} (e1 : a' = k0_pay23 b ba) (e2 : ba = k0_pay23 b' a)
    (e3 : b = k0_pay36 k0_pay22 a aa) (e3' : b' = k0_pay36 k0_pay22 a aa) (e4 : aa = k0_pay23 a a)
    (ha : Is2 a (x * xᵀ)) : Is2 a' (stepX x * (stepX x)ᵀ) := by
  subst e1 e2 e3 e3' e4
  rw [← gram_step]
  have hb := pay36_is ha (pay23_is ha ha)
  exact pay23_is hb (pay23_is hb ha)

/-- The kernel's stored values lead from the momentum to its orthogonal part. -/
theorem ns_chain {x s : Wd} {r16 : Ideal .f32} {r15 : _}
    {a0 a1 a2 a3 a4 aa0 aa1 aa2 aa3 aa4 b0 b1 b2 b3 b4 p0 p1 p2 p3 q0 q1 q2 q3 d0 d1 d2 d3 c0 c1 c2 c3 c4 t1 t2 t3 t4 : Sq}
    {S : Mat 1024 2048}
    (ex : x = k0_pay52 r16 c4 s)
    (ec4 : c4 = k0_pay26 t4) (et4 : t4 = k0_pay23 b4 c3) (eb4 : b4 = k0_pay36 k0_pay22 a4 aa4) (eaa4 : aa4 = k0_pay23 a4 a4)
    (ea4 : a4 = k0_pay23 p3 d3) (ed3 : d3 = k0_pay23 q3 a3)
    (ec3 : c3 = k0_pay26 t3) (et3 : t3 = k0_pay23 b3 c2) (eb3 : b3 = k0_pay36 k0_pay22 a3 aa3) (eaa3 : aa3 = k0_pay23 a3 a3)
    (eq3 : q3 = k0_pay36 k0_pay22 a3 aa3) (ep3 : p3 = k0_pay36 k0_pay22 a3 aa3)
    (ea3 : a3 = k0_pay23 p2 d2) (ed2 : d2 = k0_pay23 q2 a2)
    (ec2 : c2 = k0_pay26 t2) (et2 : t2 = k0_pay23 b2 c1) (eb2 : b2 = k0_pay36 k0_pay22 a2 aa2) (eaa2 : aa2 = k0_pay23 a2 a2)
    (eq2 : q2 = k0_pay36 k0_pay22 a2 aa2) (ep2 : p2 = k0_pay36 k0_pay22 a2 aa2)
    (ea2 : a2 = k0_pay23 p1 d1) (ed1 : d1 = k0_pay23 q1 a1)
    (ec1 : c1 = k0_pay26 t1) (et1 : t1 = k0_pay23 b1 c0) (eb1 : b1 = k0_pay36 k0_pay22 a1 aa1) (eaa1 : aa1 = k0_pay23 a1 a1)
    (eq1 : q1 = k0_pay36 k0_pay22 a1 aa1) (ep1 : p1 = k0_pay36 k0_pay22 a1 aa1)
    (ea1 : a1 = k0_pay23 p0 d0) (ed0 : d0 = k0_pay23 q0 a0)
    (ec0 : c0 = k0_pay26 b0) (eb0 : b0 = k0_pay36 k0_pay22 a0 aa0) (eaa0 : aa0 = k0_pay23 a0 a0)
    (eq0 : q0 = k0_pay36 k0_pay22 a0 aa0) (ep0 : p0 = k0_pay36 k0_pay22 a0 aa0)
    (ea0 : a0 = k0_pay21 r15 s s) (er16 : r16 = k0_pay20 r15) (er15 : r15 = k0_pay19 s)
    (hs : Is2 s S) : Is2 x (orth S) := by
  subst er15
  have h0 : Is2 a0 (unit S * (unit S)ᵀ) := ea0 ▸ pay21_is hs
  have h1 := a_step ea1 ed0 ep0 eq0 eaa0 h0
  have h2 := a_step ea2 ed1 ep1 eq1 eaa1 h1
  have h3 := a_step ea3 ed2 ep2 eq2 eaa2 h2
  have h4 := a_step ea4 ed3 ep3 eq3 eaa3 h3
  have g0 := c_first ec0 eb0 eaa0 h0
  have g1 := c_step ec1 et1 eb1 eaa1 h1 g0
  have g2 := c_step ec2 et2 eb2 eaa2 h2 g1
  have g3 := c_step ec3 et3 eb3 eaa3 h3 g2
  have g4 := c_step ec4 et4 eb4 eaa4 h4 g3
  rw [← orth_eq S _ _ _ _ _ rfl rfl rfl rfl rfl, ex, er16]
  exact pay52_is (pay20_is hs) g4 hs

/-- The left half of a weight block is apart from its right half. -/
theorem halves : Disjoint (Rect.unit (s := S1024x2048) ![0, 1024] S1024x1024.size inb_S1024x2048_S1024x1024_0_1024).set
    (Rect.unit (s := S1024x2048) ![0, 0] S1024x1024.size inb_S1024x2048_S1024x1024_0_0).toLoadRect.set := by
  refine Rect.unit_disjoint (1 : Fin 2) ?_
  decide

end Cert.Scan

end
-- ==== Proof.Run.lean ====
/- What one point of the grid leaves, over the real numbers. -/
module

public import proofs.«01_k».proof.Proof.Chain

@[expose] public section

noncomputable section

namespace Cert.Scan

open Idealize.ShloMosaic Cert.KernelIdeal Cert.KernelIdeal.Gen Matrix

/-- A read over the last write. -/
theorem top {sig : RefSig} {κ : Kind} {sp : Space} {s : Shape} {e : EltTy} (v : View sig κ sp s e) (r : Rect s)
    (w : r.shape.Idx → Elt Ideal e) (L : List (View.Piece (Elt Ideal) s e)) : v.readCov (⟨r, w⟩ :: L) r.toLoadRect = w :=
  View.readCov_cons_toLoadRect v r w L

/-- A read of one half over a write of the other. -/
theorem below {sig : RefSig} {κ : Kind} {sp : Space} {s : Shape} {e : EltTy} (v : View sig κ sp s e) (r r' : Rect s)
    (w : r.shape.Idx → Elt Ideal e) (u : r'.shape.Idx → Elt Ideal e) (L : List (View.Piece (Elt Ideal) s e))
    (h : Disjoint r.set r'.toLoadRect.set) : v.readCov (⟨r, w⟩ :: ⟨r', u⟩ :: L) r'.toLoadRect = u :=
  (View.readCov_cons_of_disjoint v _ _ _ h).trans (View.readCov_cons_toLoadRect v r' u L)

/-- A read of one half over two writes of the other. -/
theorem below2 {sig : RefSig} {κ : Kind} {sp : Space} {s : Shape} {e : EltTy} (v : View sig κ sp s e) (r r' : Rect s)
    (w w' : r.shape.Idx → Elt Ideal e) (u : r'.shape.Idx → Elt Ideal e) (L : List (View.Piece (Elt Ideal) s e))
    (h : Disjoint r.set r'.toLoadRect.set) : v.readCov (⟨r, w⟩ :: ⟨r, w'⟩ :: ⟨r', u⟩ :: L) r'.toLoadRect = u :=
  (View.readCov_cons_of_disjoint v _ _ _ h).trans (below v r r' w' u L h)

/-- A load of a whole block is the block. -/
theorem ld_all {sig : RefSig} {κ : Kind} {sp : Space} {S : Shape} {e : EltTy} (m : Memref sig κ sp S e) (h : m.IsWhole)
    {off : Fin S.rank → ℕ} (h0 : off = fun _ => 0) (inb : ∀ a, off a + S.size a ≤ S.size a) (x : S.Idx → Elt Ideal e) :
    View.readAt (Elt Ideal) m.view (Rect.unit off S.size inb).toLoadRect (h.unread x) = x := by
  rw [View.readAt_eq_ld, Memref.IsWhole.read_unread, View.ld_unit_zero h0]

/-- A load of a whole block over a write of all of it. -/
theorem top_all {sig : RefSig} {κ : Kind} {sp : Space} {S : Shape} {e : EltTy} (v : View sig κ sp S e)
    {off : Fin S.rank → ℕ} (h0 : off = fun _ => 0) (inb : ∀ a, off a + S.size a ≤ S.size a) (x : S.Idx → Elt Ideal e)
    (L : List (View.Piece (Elt Ideal) S e)) :
    v.readCov (⟨Rect.whole S, x⟩ :: L) (Rect.unit off S.size inb).toLoadRect = x := by
  subst h0
  exact View.readCov_cons_toLoadRect v (Rect.whole S) x L

/-- Three zero offsets. -/
theorem zero3 : (![0, 0, 0] : Fin 3 → ℕ) = fun _ => 0 := by funext a; fin_cases a <;> rfl
/-- Two zero offsets. -/
theorem zero2 : (![0, 0] : Fin 2 → ℕ) = fun _ => 0 := by funext a; fin_cases a <;> rfl
/-- Four zero offsets. -/
theorem zero4 : (![0, 0, 0, 0] : Fin 4 → ℕ) = fun _ => 0 := by funext a; fin_cases a <;> rfl

/-- A block equal to one whose value is known. -/
theorem of_eq {a b : ℕ} {x y : FVec Ideal ⟨2, ![a, b]⟩ .f32} {M : Mat a b} (e : x = y) (h : Is2 y M) : Is2 x M := e ▸ h

/-- A block of a chunk equal to one whose value is known. -/
theorem of_eqB {a b : ℕ} {x y : FVec Ideal ⟨3, ![1, a, b]⟩ .f32} {M : Mat a b} (e : x = y) (h : IsB y M) : IsB x M := e ▸ h

/-- The row of the grid's point, as the kernel spells it. -/
theorem row_val (i : grid0.Coords) : (Scalar.indexCast (BitVec.ofNat 32 (i 0).val) : Index).toNat = (i 0).val := by
  have h : (i 0).val < 32 := (i 0).isLt
  show (BitVec.ofNat 32 (i 0).val).toNat = _
  rw [BitVec.toNat_ofNat]
  omega

/-- The first number of the point's row. -/
theorem scal (m : Memref sig .tc .smem S32x3 .f32) (hm : m.IsWhole) (x : Vec Ideal S32x3 .f32) (i : grid0.Coords) (j : Fin 3)
    (off : Fin 2 → ℕ) (inb : ∀ a, off a + S1x1.size a ≤ S32x3.size a) (h0 : off 0 = (i 0).val) (h1 : off 1 = j.val)
    (y : (Rect.unit (s := S32x3) off S1x1.size inb).shape.Idx) :
    View.readAt (Elt Ideal) m.view (Rect.unit (s := S32x3) off S1x1.size inb).toLoadRect (hm.unread x) y = x (ix2 (i 0) j) := by
  rw [View.readAt_eq_ld, Memref.IsWhole.read_unread]
  show x _ = x _
  congr 1
  funext a
  have y0 : (y 0).val < 1 := (y 0).isLt
  have y1 : (y 1).val < 1 := (y 1).isLt
  apply Fin.ext
  fin_cases a
  · show off 0 + 1 * (y 0).val = (i 0).val
    omega
  · show off 1 + 1 * (y 1).val = j.val
    omega

section

variable {c : Dev nD} {i : grid0.Coords} {arg1 : Memref sig .tc .vmem S1x64x1024 .f32} {harg1 : arg1.IsWhole} {arg2 : Memref sig .tc .vmem S1x64x1024 .f32} {harg2 : arg2.IsWhole} {arg3 : Memref sig .tc .vmem S1x64x1024 .f32} {harg3 : arg3.IsWhole} {arg4 : Memref sig .tc .smem S32x3 .f32} {harg4 : arg4.IsWhole} {arg5 : Memref sig .tc .vmem S1024x512 .f32} {harg5 : arg5.IsWhole} {arg8 : Memref sig .tc .vmem S2x1x32x512 .f32} {harg8 : arg8.IsWhole} {arg9 : Memref sig .tc .vmem S1024x2048 .f32} {harg9 : arg9.IsWhole} {arg10 : Memref sig .tc .vmem S1024x2048 .f32} {harg10 : arg10.IsWhole} {arg11 : Memref sig .tc .vmem S1024x2048 .f32} {harg11 : arg11.IsWhole} {arg12 : Memref sig .tc .vmem S1024x2048 .f32} {harg12 : arg12.IsWhole} {arg13 : Memref sig .tc .vmem S1024x2048 .f32} {harg13 : arg13.IsWhole} {arg14 : Memref sig .tc .vmem S1024x1024 .f32} {harg14 : arg14.IsWhole} {arg15 : Memref sig .tc .vmem S1024x1024 .f32} {harg15 : arg15.IsWhole} {hc0 : ¬cond0_0 i}
    {x0 : Vec Ideal S1x64x1024 .f32} {x1 : Vec Ideal S1x64x1024 .f32} {x2 : Vec Ideal S1x64x1024 .f32} {x3 : Vec Ideal S32x3 .f32} {x4 : Vec Ideal S1024x512 .f32} {xs0 : Vec Ideal S1024x2048 .f32} {xs1 : Vec Ideal S1024x2048 .f32} {xs2 : Vec Ideal S1024x2048 .f32} {xs3 : Vec Ideal S1024x2048 .f32} {fh0 : HbBuf0 (F := Ideal) c hbM0_0} {fh1 : HbBuf0 (F := Ideal) c hbM0_1}
variable {Q K V : Mat 64 1024} {O : Mat 1024 512} {s : St} {p : Fin 3 → ℝ}
variable (hq : IsB x0 Q) (hk : IsB x1 K) (hv : IsB x2 V) (hc : ∀ j, x3 (ix2 (i 0) j) = ((p j : ℝ) : EReal)) (ho : Is2 x4 O)
  (hw : Is2 xs0 s.W) (hu : Is2 xs1 s.U) (hs : Is2 xs2 s.S) (ht : Is2 xs3 s.T)

include hq hk hv hc ho hw hu hs ht in
/-- The first momentum after the point. -/
theorem momW_B : Is2 (sout0_B_2 c i arg1 harg1 arg2 harg2 arg3 harg3 arg4 harg4 arg5 harg5 arg8 harg8 arg9 harg9 arg10 harg10 arg11 harg11 arg12 harg12 arg13 harg13 arg14 harg14 arg15 harg15 hc0 x0 x1 x2 x3 x4 xs0 xs1 xs2 xs3 fh0 fh1) (step K V (p 0) (p 1) (p 2) s).S := by
  unfold sout0_B_2
  rw [View.read_writes_junk_eq_canon]
  delta kernelRun0_B
  dsimp only
  refine of_eq (View.canon_cons_unit_zero zero2 _ _ _) ?_
  exact (pay18_is ((scal _ _ _ _ 0 _ _ (row_val i) rfl _).trans (hc 0)) ((scal _ _ _ _ 1 _ _ (row_val i) rfl _).trans (hc 1))
    (of_eq (ld_all _ _ zero2 _ _) hs) (of_eq (top _ _ _ _) (gradW_is (of_eqB (ld_all _ _ zero3 _ _) hq) (of_eqB (ld_all _ _ zero3 _ _) hk) (of_eqB (ld_all _ _ zero3 _ _) hv) (of_eq (ld_all _ _ zero2 _ _) hw) (of_eq (ld_all _ _ zero2 _ _) hu))))

include hq hk hv hc ho hw hu hs ht in
/-- The second momentum after the point. -/
theorem momU_B : Is2 (sout0_B_3 c i arg1 harg1 arg2 harg2 arg3 harg3 arg4 harg4 arg5 harg5 arg8 harg8 arg9 harg9 arg10 harg10 arg11 harg11 arg12 harg12 arg13 harg13 arg14 harg14 arg15 harg15 hc0 x0 x1 x2 x3 x4 xs0 xs1 xs2 xs3 fh0 fh1) (step K V (p 0) (p 1) (p 2) s).T := by
  unfold sout0_B_3
  rw [View.read_writes_junk_eq_canon]
  delta kernelRun0_B
  dsimp only
  refine of_eq (View.canon_cons_unit_zero zero2 _ _ _) ?_
  exact (pay18_is ((scal _ _ _ _ 0 _ _ (row_val i) rfl _).trans (hc 0)) ((scal _ _ _ _ 1 _ _ (row_val i) rfl _).trans (hc 1))
    (of_eq (ld_all _ _ zero2 _ _) ht) (of_eq (top _ _ _ _) (gradU_is (of_eqB (ld_all _ _ zero3 _ _) hq) (of_eqB (ld_all _ _ zero3 _ _) hk) (of_eqB (ld_all _ _ zero3 _ _) hv) (of_eq (ld_all _ _ zero2 _ _) hw) (of_eq (ld_all _ _ zero2 _ _) hu))))

include hq hk hv hc ho hw hu hs ht in
/-- The first layer after the point. -/
theorem wtsW_B : Is2 (sout0_B_0 c i arg1 harg1 arg2 harg2 arg3 harg3 arg4 harg4 arg5 harg5 arg8 harg8 arg9 harg9 arg10 harg10 arg11 harg11 arg12 harg12 arg13 harg13 arg14 harg14 arg15 harg15 hc0 x0 x1 x2 x3 x4 xs0 xs1 xs2 xs3 fh0 fh1) (step K V (p 0) (p 1) (p 2) s).W := by
  unfold sout0_B_0
  rw [View.read_writes_junk_eq_canon]
  delta kernelRun0_B
  dsimp only
  refine of_eq (View.canon_cons_unit_zero zero2 _ _ _) ?_
  refine pay2_is ((scal _ _ _ _ 0 _ _ (row_val i) rfl _).trans (hc 0)) ((scal _ _ _ _ 2 _ _ (row_val i) rfl _).trans (hc 2)) (of_eq (ld_all _ _ zero2 _ _) hw) ?_
  exact ns_chain (top _ _ _ _) (top _ _ _ _) (top _ _ _ _) (top _ _ _ _) (top _ _ _ _)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (top _ _ _ _) rfl rfl
    (of_eq (top _ _ _ _) (pay18_is ((scal _ _ _ _ 0 _ _ (row_val i) rfl _).trans (hc 0)) ((scal _ _ _ _ 1 _ _ (row_val i) rfl _).trans (hc 1))
    (of_eq (ld_all _ _ zero2 _ _) hs) (of_eq (top _ _ _ _) (gradW_is (of_eqB (ld_all _ _ zero3 _ _) hq) (of_eqB (ld_all _ _ zero3 _ _) hk) (of_eqB (ld_all _ _ zero3 _ _) hv) (of_eq (ld_all _ _ zero2 _ _) hw) (of_eq (ld_all _ _ zero2 _ _) hu)))))

include hq hk hv hc ho hw hu hs ht in
/-- The second layer after the point. -/
theorem wtsU_B : Is2 (sout0_B_1 c i arg1 harg1 arg2 harg2 arg3 harg3 arg4 harg4 arg5 harg5 arg8 harg8 arg9 harg9 arg10 harg10 arg11 harg11 arg12 harg12 arg13 harg13 arg14 harg14 arg15 harg15 hc0 x0 x1 x2 x3 x4 xs0 xs1 xs2 xs3 fh0 fh1) (step K V (p 0) (p 1) (p 2) s).U := by
  unfold sout0_B_1
  rw [View.read_writes_junk_eq_canon]
  delta kernelRun0_B
  dsimp only
  refine of_eq (View.canon_cons_unit_zero zero2 _ _ _) ?_
  refine pay2_is ((scal _ _ _ _ 0 _ _ (row_val i) rfl _).trans (hc 0)) ((scal _ _ _ _ 2 _ _ (row_val i) rfl _).trans (hc 2)) (of_eq (ld_all _ _ zero2 _ _) hu) ?_
  exact ns_chain (top _ _ _ _) (top _ _ _ _) (top _ _ _ _) (top _ _ _ _) (top _ _ _ _)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (top _ _ _ _) rfl rfl
    (of_eq (top _ _ _ _) (pay18_is ((scal _ _ _ _ 0 _ _ (row_val i) rfl _).trans (hc 0)) ((scal _ _ _ _ 1 _ _ (row_val i) rfl _).trans (hc 1))
    (of_eq (ld_all _ _ zero2 _ _) ht) (of_eq (top _ _ _ _) (gradU_is (of_eqB (ld_all _ _ zero3 _ _) hq) (of_eqB (ld_all _ _ zero3 _ _) hk) (of_eqB (ld_all _ _ zero3 _ _) hv) (of_eq (ld_all _ _ zero2 _ _) hw) (of_eq (ld_all _ _ zero2 _ _) hu)))))

include hq hk hv hc ho hw hu hs ht in
/-- The answers of the point. -/
theorem ans_B : Is4 (out0_B_5 c i arg1 harg1 arg2 harg2 arg3 harg3 arg4 harg4 arg5 harg5 arg8 harg8 arg9 harg9 arg10 harg10 arg11 harg11 arg12 harg12 arg13 harg13 arg14 harg14 arg15 harg15 hc0 x0 x1 x2 x3 x4 xs0 xs1 xs2 xs3 fh0 fh1) fun a _ c j => answer Q s O ⟨32 * a.1 + c.1, by omega⟩ j := by
  unfold out0_B_5
  rw [View.read_writes_junk_eq_canon]
  delta kernelRun0_B
  dsimp only
  rw [View.canon_cons_unit_zero zero4]
  exact answer_is (of_eqB (ld_all _ _ zero3 _ _) hq) (of_eqB (ld_all _ _ zero3 _ _) hk) (of_eq (ld_all _ _ zero2 _ _) hw) (of_eq (ld_all _ _ zero2 _ _) hu) (of_eq (ld_all _ _ zero2 _ _) ho)

end
section

variable {c : Dev nD} {i : grid0.Coords} {arg1 : Memref sig .tc .vmem S1x64x1024 .f32} {harg1 : arg1.IsWhole} {arg2 : Memref sig .tc .vmem S1x64x1024 .f32} {harg2 : arg2.IsWhole} {arg3 : Memref sig .tc .vmem S1x64x1024 .f32} {harg3 : arg3.IsWhole} {arg4 : Memref sig .tc .smem S32x3 .f32} {harg4 : arg4.IsWhole} {arg5 : Memref sig .tc .vmem S1024x512 .f32} {harg5 : arg5.IsWhole} {arg8 : Memref sig .tc .vmem S2x1x32x512 .f32} {harg8 : arg8.IsWhole} {arg9 : Memref sig .tc .vmem S1024x2048 .f32} {harg9 : arg9.IsWhole} {arg10 : Memref sig .tc .vmem S1024x2048 .f32} {harg10 : arg10.IsWhole} {arg11 : Memref sig .tc .vmem S1024x2048 .f32} {harg11 : arg11.IsWhole} {arg12 : Memref sig .tc .vmem S1024x2048 .f32} {harg12 : arg12.IsWhole} {arg13 : Memref sig .tc .vmem S1024x2048 .f32} {harg13 : arg13.IsWhole} {arg14 : Memref sig .tc .vmem S1024x1024 .f32} {harg14 : arg14.IsWhole} {arg15 : Memref sig .tc .vmem S1024x1024 .f32} {harg15 : arg15.IsWhole} {hc0 : cond0_0 i}
    {x0 : Vec Ideal S1x64x1024 .f32} {x1 : Vec Ideal S1x64x1024 .f32} {x2 : Vec Ideal S1x64x1024 .f32} {x3 : Vec Ideal S32x3 .f32} {x4 : Vec Ideal S1024x512 .f32} {fh0 : HbBuf0 (F := Ideal) c hbM0_0} {fh1 : HbBuf0 (F := Ideal) c hbM0_1}
variable {Q K V : Mat 64 1024} {O : Mat 1024 512} {s : St} {p : Fin 3 → ℝ}
variable (hq : IsB x0 Q) (hk : IsB x1 K) (hv : IsB x2 V) (hc : ∀ j, x3 (ix2 (i 0) j) = ((p j : ℝ) : EReal)) (ho : Is2 x4 O)
  (hw : Is2 (View.read (Elt Ideal) (Memref.whole main_arg4).view fh0) s.W) (hu : Is2 (View.read (Elt Ideal) (Memref.whole main_v0).view fh1) s.U) (hs : s.S = 0) (ht : s.T = 0)

include hq hk hv hc ho hw hu hs ht in
/-- The first momentum after the point. -/
theorem momW_A : Is2 (sout0_A_2 c i arg1 harg1 arg2 harg2 arg3 harg3 arg4 harg4 arg5 harg5 arg8 harg8 arg9 harg9 arg10 harg10 arg11 harg11 arg12 harg12 arg13 harg13 arg14 harg14 arg15 harg15 hc0 x0 x1 x2 x3 x4 fh0 fh1) (step K V (p 0) (p 1) (p 2) s).S := by
  unfold sout0_A_2
  rw [View.read_writes_junk_eq_canon]
  delta kernelRun0_A
  dsimp only
  refine of_eq (View.canon_cons_unit_zero zero2 _ _ _) ?_
  exact (pay18_is ((scal _ _ _ _ 0 _ _ (row_val i) rfl _).trans (hc 0)) ((scal _ _ _ _ 1 _ _ (row_val i) rfl _).trans (hc 1))
    (of_eq (top _ _ _ _) (hs ▸ pay3_is)) (of_eq (top _ _ _ _) (gradW_is (of_eqB (ld_all _ _ zero3 _ _) hq) (of_eqB (ld_all _ _ zero3 _ _) hk) (of_eqB (ld_all _ _ zero3 _ _) hv) (of_eq (top_all _ zero2 _ _ _) hw) (of_eq (top_all _ zero2 _ _ _) hu))))

include hq hk hv hc ho hw hu hs ht in
/-- The second momentum after the point. -/
theorem momU_A : Is2 (sout0_A_3 c i arg1 harg1 arg2 harg2 arg3 harg3 arg4 harg4 arg5 harg5 arg8 harg8 arg9 harg9 arg10 harg10 arg11 harg11 arg12 harg12 arg13 harg13 arg14 harg14 arg15 harg15 hc0 x0 x1 x2 x3 x4 fh0 fh1) (step K V (p 0) (p 1) (p 2) s).T := by
  unfold sout0_A_3
  rw [View.read_writes_junk_eq_canon]
  delta kernelRun0_A
  dsimp only
  refine of_eq (View.canon_cons_unit_zero zero2 _ _ _) ?_
  exact (pay18_is ((scal _ _ _ _ 0 _ _ (row_val i) rfl _).trans (hc 0)) ((scal _ _ _ _ 1 _ _ (row_val i) rfl _).trans (hc 1))
    (of_eq (top _ _ _ _) (ht ▸ pay3_is)) (of_eq (top _ _ _ _) (gradU_is (of_eqB (ld_all _ _ zero3 _ _) hq) (of_eqB (ld_all _ _ zero3 _ _) hk) (of_eqB (ld_all _ _ zero3 _ _) hv) (of_eq (top_all _ zero2 _ _ _) hw) (of_eq (top_all _ zero2 _ _ _) hu))))

include hq hk hv hc ho hw hu hs ht in
/-- The first layer after the point. -/
theorem wtsW_A : Is2 (sout0_A_0 c i arg1 harg1 arg2 harg2 arg3 harg3 arg4 harg4 arg5 harg5 arg8 harg8 arg9 harg9 arg10 harg10 arg11 harg11 arg12 harg12 arg13 harg13 arg14 harg14 arg15 harg15 hc0 x0 x1 x2 x3 x4 fh0 fh1) (step K V (p 0) (p 1) (p 2) s).W := by
  unfold sout0_A_0
  rw [View.read_writes_junk_eq_canon]
  delta kernelRun0_A
  dsimp only
  refine of_eq (View.canon_cons_unit_zero zero2 _ _ _) ?_
  refine pay2_is ((scal _ _ _ _ 0 _ _ (row_val i) rfl _).trans (hc 0)) ((scal _ _ _ _ 2 _ _ (row_val i) rfl _).trans (hc 2)) (of_eq (top_all _ zero2 _ _ _) hw) ?_
  exact ns_chain (top _ _ _ _) (top _ _ _ _) (top _ _ _ _) (top _ _ _ _) (top _ _ _ _)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (top _ _ _ _) rfl rfl
    (of_eq (top _ _ _ _) (pay18_is ((scal _ _ _ _ 0 _ _ (row_val i) rfl _).trans (hc 0)) ((scal _ _ _ _ 1 _ _ (row_val i) rfl _).trans (hc 1))
    (of_eq (top _ _ _ _) (hs ▸ pay3_is)) (of_eq (top _ _ _ _) (gradW_is (of_eqB (ld_all _ _ zero3 _ _) hq) (of_eqB (ld_all _ _ zero3 _ _) hk) (of_eqB (ld_all _ _ zero3 _ _) hv) (of_eq (top_all _ zero2 _ _ _) hw) (of_eq (top_all _ zero2 _ _ _) hu)))))

include hq hk hv hc ho hw hu hs ht in
/-- The second layer after the point. -/
theorem wtsU_A : Is2 (sout0_A_1 c i arg1 harg1 arg2 harg2 arg3 harg3 arg4 harg4 arg5 harg5 arg8 harg8 arg9 harg9 arg10 harg10 arg11 harg11 arg12 harg12 arg13 harg13 arg14 harg14 arg15 harg15 hc0 x0 x1 x2 x3 x4 fh0 fh1) (step K V (p 0) (p 1) (p 2) s).U := by
  unfold sout0_A_1
  rw [View.read_writes_junk_eq_canon]
  delta kernelRun0_A
  dsimp only
  refine of_eq (View.canon_cons_unit_zero zero2 _ _ _) ?_
  refine pay2_is ((scal _ _ _ _ 0 _ _ (row_val i) rfl _).trans (hc 0)) ((scal _ _ _ _ 2 _ _ (row_val i) rfl _).trans (hc 2)) (of_eq (top_all _ zero2 _ _ _) hu) ?_
  exact ns_chain (top _ _ _ _) (top _ _ _ _) (top _ _ _ _) (top _ _ _ _) (top _ _ _ _)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (below2 _ _ _ _ _ _ _ halves)
    (top _ _ _ _) (top _ _ _ _) (top _ _ _ _) (top _ _ _ _) (top _ _ _ _) (top _ _ _ _) (below _ _ _ _ _ _ halves) (top _ _ _ _) rfl rfl
    (of_eq (top _ _ _ _) (pay18_is ((scal _ _ _ _ 0 _ _ (row_val i) rfl _).trans (hc 0)) ((scal _ _ _ _ 1 _ _ (row_val i) rfl _).trans (hc 1))
    (of_eq (top _ _ _ _) (ht ▸ pay3_is)) (of_eq (top _ _ _ _) (gradU_is (of_eqB (ld_all _ _ zero3 _ _) hq) (of_eqB (ld_all _ _ zero3 _ _) hk) (of_eqB (ld_all _ _ zero3 _ _) hv) (of_eq (top_all _ zero2 _ _ _) hw) (of_eq (top_all _ zero2 _ _ _) hu)))))

include hq hk hv hc ho hw hu hs ht in
/-- The answers of the point. -/
theorem ans_A : Is4 (out0_A_5 c i arg1 harg1 arg2 harg2 arg3 harg3 arg4 harg4 arg5 harg5 arg8 harg8 arg9 harg9 arg10 harg10 arg11 harg11 arg12 harg12 arg13 harg13 arg14 harg14 arg15 harg15 hc0 x0 x1 x2 x3 x4 fh0 fh1) fun a _ c j => answer Q s O ⟨32 * a.1 + c.1, by omega⟩ j := by
  unfold out0_A_5
  rw [View.read_writes_junk_eq_canon]
  delta kernelRun0_A
  dsimp only
  rw [View.canon_cons_unit_zero zero4]
  exact answer_is (of_eqB (ld_all _ _ zero3 _ _) hq) (of_eqB (ld_all _ _ zero3 _ _) hk) (of_eq (top_all _ zero2 _ _ _) hw) (of_eq (top_all _ zero2 _ _ _) hu) (of_eq (ld_all _ _ zero2 _ _) ho)

end

end Cert.Scan

end
-- ==== Proof.Kern.lean ====
/- What the kernel's run leaves, over the real numbers. -/
module

public import proofs.«01_k».proof.Proof.Run
public import Idealize.ShloMosaic.Lib.Pipeline.ValueKit

@[expose] public section

noncomputable section

namespace Cert.Scan

open Idealize.ShloMosaic Idealize.ShloMosaic.TcCoe Cert.KernelIdeal Cert.KernelIdeal.Gen Matrix

/-- Arrays that hold the arguments. -/
structure Holds (A : Args) (a0 a1 a2 : FVec Ideal ⟨3, ![32, 64, 1024]⟩ .f32) (a3 : FVec Ideal ⟨2, ![32, 3]⟩ .f32)
    (a4 : FVec Ideal ⟨2, ![1024, 2048]⟩ .f32) (a5 : FVec Ideal ⟨2, ![2048, 1024]⟩ .f32)
    (a6 : FVec Ideal ⟨2, ![1024, 512]⟩ .f32) : Prop where
  q : Is3 a0 A.Q
  k : Is3 a1 A.K
  v : Is3 a2 A.V
  p : Is2 a3 A.P
  w : Is2 a4 A.W
  u : Is2 a5 A.Uᵀ
  o : Is2 a6 A.O

variable {m : (ℓ : Loc nD τ sig) → Buf (Elt Ideal) ℓ} {c : Dev nD} {A : Args}

/-- A grid point's place. -/
theorem coord : ∀ t : Fin cfg0.N, (grid0.coords t 0).val = t.val := by decide +kernel

/-- A grid point's place, as a chunk's. -/
theorem coord_row (t : Fin cfg0.N) : (grid0.coords t 0 : Fin 32) = row t.val := by
  apply Fin.ext
  have h : t.val < 32 := t.isLt
  show (grid0.coords t 0).val = t.val % 32
  rw [coord t, Nat.mod_eq_of_lt h]

/-- The blocks' places. -/
theorem places : ∀ t : Fin cfg0.N, win0_0.index t = ![t.val, 0, 0] ∧ win0_1.index t = ![t.val, 0, 0]
    ∧ win0_2.index t = ![t.val, 0, 0] ∧ win0_3.index t = ![0, 0] ∧ win0_4.index t = ![0, 0]
    ∧ win0_5.index t = ![0, t.val, 0, 0] := by decide +kernel

section

variable (h : Holds A (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)))
include h

/-- A chunk's queries. -/
theorem blk_q (t : Fin cfg0.N) : IsB (iblk m c 0 t) (A.Q (row t.val)) := by
  intro i j
  have e : iblk m c 0 t (ix3 0 i j) = m ((c : Thread nD τ).loc main_arg0) (ix3 (row t.val) i j) := by
    rw [← coord_row]
    blk_ext [iblk, V_main_arg0, (places t).1, coord]
  exact e.trans (h.q _ _ _)

/-- A chunk's keys. -/
theorem blk_k (t : Fin cfg0.N) : IsB (iblk m c 1 t) (A.K (row t.val)) := by
  intro i j
  have e : iblk m c 1 t (ix3 0 i j) = m ((c : Thread nD τ).loc main_arg1) (ix3 (row t.val) i j) := by
    rw [← coord_row]
    blk_ext [iblk, V_main_arg1, (places t).2.1, coord]
  exact e.trans (h.k _ _ _)

/-- A chunk's values. -/
theorem blk_v (t : Fin cfg0.N) : IsB (iblk m c 2 t) (A.V (row t.val)) := by
  intro i j
  have e : iblk m c 2 t (ix3 0 i j) = m ((c : Thread nD τ).loc main_arg2) (ix3 (row t.val) i j) := by
    rw [← coord_row]
    blk_ext [iblk, V_main_arg2, (places t).2.2.1, coord]
  exact e.trans (h.v _ _ _)

/-- A chunk's numbers. -/
theorem row_num (t : Fin cfg0.N) (j : Fin 3) : iblk m c 3 t (ix2 (grid0.coords t 0) j) = ((A.P (row t.val) j : ℝ) : EReal) := by
  have e : iblk m c 3 t (ix2 (grid0.coords t 0) j) = m ((c : Thread nD τ).loc main_arg3) (ix2 (grid0.coords t 0) j) := by
    blk_ext [iblk, V_main_arg3, (places t).2.2.2.1]
  rw [← coord_row]
  exact e.trans (h.p _ _)

/-- The output weights. -/
theorem blk_o (t : Fin cfg0.N) : Is2 (iblk m c 4 t) A.O := by
  intro i j
  have e : iblk m c 4 t (ix2 i j) = m ((c : Thread nD τ).loc main_arg6) (ix2 i j) := by
    blk_ext [iblk, V_main_arg6, (places t).2.2.2.2.1]
  exact e.trans (h.o _ _)

/-- The first layer at the start. -/
theorem wts_first : Is2 (View.read (Elt Ideal) (Memref.whole main_arg4).view (V m c main_arg4)) A.W := by
  rw [V_main_arg4]
  exact h.w

/-- The second layer at the start. -/
theorem wts_second : Is2 (View.read (Elt Ideal) (Memref.whole main_v0).view (V m c main_v0)) A.U := by
  intro i j
  have e : V m c main_v0 (ix2 i j) = m ((c : Thread nD τ).loc main_arg5) (ix2 j i) := by
    entry_read
    pointwise
  exact e.trans (h.u _ _)

/-- What a point leaves: the memory after its chunk, and the chunk's answers. -/
theorem points (n : ℕ) : ∀ hn : n < cfg0.N,
    (Is2 (outsAt0 m c n hn).2.1 (A.mem (n + 1)).W ∧ Is2 (outsAt0 m c n hn).2.2.1 (A.mem (n + 1)).U
      ∧ Is2 (outsAt0 m c n hn).2.2.2.1 (A.mem (n + 1)).S ∧ Is2 (outsAt0 m c n hn).2.2.2.2 (A.mem (n + 1)).T)
    ∧ Is4 (outsAt0 m c n hn).1 fun a _ i j => A.ans n ⟨32 * a.1 + i.1, by omega⟩ j := by
  induction n with
  | zero =>
    intro hn
    rw [outsAt0_A m c ⟨0, hn⟩ (Nat.zero_mod _)]
    have hq := blk_q h ⟨0, hn⟩
    have hk := blk_k h ⟨0, hn⟩
    have hv := blk_v h ⟨0, hn⟩
    have hc := row_num h ⟨0, hn⟩
    have ho := blk_o h ⟨0, hn⟩
    have hw := wts_first h
    have hu := wts_second h
    rw [show A.mem (0 + 1) = step (A.K (row 0)) (A.V (row 0)) (A.P (row 0) 0) (A.P (row 0) 1) (A.P (row 0) 2) (A.mem 0) from rfl]
    dsimp only
    refine ⟨⟨?_, ?_, ?_, ?_⟩, ?_⟩
    · exact wtsW_A hq hk hv hc ho hw hu rfl rfl
    · exact wtsU_A hq hk hv hc ho hw hu rfl rfl
    · exact momW_A hq hk hv hc ho hw hu rfl rfl
    · exact momU_A hq hk hv hc ho hw hu rfl rfl
    · exact ans_A hq hk hv hc ho hw hu rfl rfl
  | succ n ih =>
    intro hn
    obtain ⟨⟨hw, hu, hs, ht⟩, -⟩ := ih (Nat.lt_of_succ_lt hn)
    have h32 : n + 1 < 32 := hn
    rw [outsAt0_B m c ⟨n + 1, hn⟩ (by show ¬(n + 1) % 32 = 0; omega)]
    have hq := blk_q h ⟨n + 1, hn⟩
    have hk := blk_k h ⟨n + 1, hn⟩
    have hv := blk_v h ⟨n + 1, hn⟩
    have hc := row_num h ⟨n + 1, hn⟩
    have ho := blk_o h ⟨n + 1, hn⟩
    rw [show A.mem (n + 1 + 1) = step (A.K (row (n + 1))) (A.V (row (n + 1))) (A.P (row (n + 1)) 0) (A.P (row (n + 1)) 1)
      (A.P (row (n + 1)) 2) (A.mem (n + 1)) from rfl]
    dsimp only
    refine ⟨⟨?_, ?_, ?_, ?_⟩, ?_⟩
    · exact wtsW_B hq hk hv hc ho hw hu hs ht
    · exact wtsU_B hq hk hv hc ho hw hu hs ht
    · exact momW_B hq hk hv hc ho hw hu hs ht
    · exact momU_B hq hk hv hc ho hw hu hs ht
    · exact ans_B hq hk hv hc ho hw hu hs ht

omit h in
/-- An answer at equal places. -/
theorem ans_congr {n n' : ℕ} {r r' : Fin 64} {j j' : Fin 512} (hn : n = n') (hr : r.val = r'.val) (hj : j.val = j'.val) :
    ((A.ans n r j : ℝ) : EReal) = ((A.ans n' r' j' : ℝ) : EReal) := by
  rw [hn, Fin.ext hr, Fin.ext hj]

/-- The kernel's result: every chunk's answers. -/
theorem kernel_out : (dats m 0 c).arrAt 5 cfg0.N
    = fun y : (⟨4, ![2, 32, 32, 512]⟩ : Shape).Idx =>
        ((A.ans (y 1).val ⟨32 * (y 0).val + (y 2).val, by have h0 : (y 0).val < 2 := (y 0).isLt; have h2 : (y 2).val < 32 := (y 2).isLt; omega⟩ (y 3) : ℝ) : EReal) := by
  refine (dats m 0 c).arrAt_eq_of_covers 5 _ (by decide +kernel) fun t hf y => ?_
  have hp := (points h t.val t.isLt).2 (y 0) (y 1) (y 2) (y 3)
  have hy : y = ix4 (y 0) (y 1) (y 2) (y 3) := by funext a; fin_cases a <;> rfl
  have h32 : t.val < 32 := t.isLt
  rw [after0_5]
  refine Eq.trans ?_ (hp.trans (ans_congr ?_ ?_ ?_))
  · exact congrArg (outsAt0 m c t.val t.isLt).1 hy
  all_goals blk_simp [(places t).2.2.2.2.2]

end

end Cert.Scan

end
-- ==== Proof.RefE.lean ====
/- The reference's loop over the real numbers. -/
module

public import proofs.«01_k».proof.Proof.RefD
public import proofs.«01_k».proof.Proof.Kern

@[expose] public section

noncomputable section

namespace Cert.Scan

open Idealize.ShloMosaic Idealize.ShloMosaic.StableHlo Cert.ReferenceIdeal Cert.ReferenceIdeal.Gen Cert.ReferenceIdeal.Value Matrix

/-- What the loop's buffers hold before a trip. -/
structure At (V0 : Valuation τ sig (Elt Ideal)) (A : Args) (n : ℕ) : Prop where
  ctr : V0 (Proc.devRef .tc main_v12_7) = fun _ => BitVec.ofNat 32 n
  q : ∀ (a : Fin 32) (b : Fin 2) (c : Fin 32) j, V0 (Proc.devRef .tc main_v12_0) (ix4 a b c j) = ((A.Q a ⟨32 * b.1 + c.1, by omega⟩ j : ℝ) : EReal)
  k : ∀ (a : Fin 32) (b : Fin 2) (c : Fin 32) j, V0 (Proc.devRef .tc main_v12_1) (ix4 a b c j) = ((A.K a ⟨32 * b.1 + c.1, by omega⟩ j : ℝ) : EReal)
  v : ∀ (a : Fin 32) (b : Fin 2) (c : Fin 32) j, V0 (Proc.devRef .tc main_v12_2) (ix4 a b c j) = ((A.V a ⟨32 * b.1 + c.1, by omega⟩ j : ℝ) : EReal)
  l : ∀ a : Fin 32, V0 (Proc.devRef .tc main_v12_3) (ix1 a) = ((A.P a 0 : ℝ) : EReal)
  m : ∀ a : Fin 32, V0 (Proc.devRef .tc main_v12_4) (ix1 a) = ((A.P a 1 : ℝ) : EReal)
  d : ∀ a : Fin 32, V0 (Proc.devRef .tc main_v12_5) (ix1 a) = ((A.P a 2 : ℝ) : EReal)
  o : Is2 (V0 (Proc.devRef .tc main_v12_6)) A.O
  w : Is2 (V0 (Proc.devRef .tc main_v12_8)) (A.mem n).W
  u : Is2 (V0 (Proc.devRef .tc main_v12_9)) (A.mem n).Uᵀ
  mW : Is2 (V0 (Proc.devRef .tc main_v12_10)) (A.mem n).S
  mU : Is2 (V0 (Proc.devRef .tc main_v12_11)) (A.mem n).Tᵀ
  r : ∀ (a : Fin 32) (b : Fin 2) (c : Fin 32) j, a.1 < n →
    V0 (Proc.devRef .tc main_v12_12) (ix4 a b c j) = ((A.ans a.1 ⟨32 * b.1 + c.1, by omega⟩ j : ℝ) : EReal)

/-- A chunk's place below the number of chunks. -/
theorem row_eq {n : ℕ} (hn : n < 32) : row n = ⟨n, hn⟩ := Fin.ext (Nat.mod_eq_of_lt hn)

/-- One trip. -/
theorem At.next {V0 : Valuation τ sig (Elt Ideal)} {A : Args} {n : ℕ} (h : At V0 A n) (hn : n < 32) : At (STEP V0) A (n + 1) := by
  have t : Trip V0 n hn (A.Q (row n)) (A.K (row n)) (A.V (row n)) (A.P (row n)) (A.mem n) A.O := by
    rw [row_eq hn]
    exact ⟨h.ctr, h.q _, h.k _, h.v _, h.l _, h.m _, h.d _, h.o, h.w, h.u, h.mW, h.mU⟩
  constructor
  · rw [STEP_main_v12_7]; exact next_ctr t
  · rw [STEP_main_v12_0]; exact h.q
  · rw [STEP_main_v12_1]; exact h.k
  · rw [STEP_main_v12_2]; exact h.v
  · rw [STEP_main_v12_3]; exact h.l
  · rw [STEP_main_v12_4]; exact h.m
  · rw [STEP_main_v12_5]; exact h.d
  · rw [STEP_main_v12_6]; exact h.o
  · rw [STEP_main_v12_8]; exact next_W t
  · rw [STEP_main_v12_9]; exact next_U t
  · rw [STEP_main_v12_10]; exact next_S t
  · rw [STEP_main_v12_11]; exact next_T t
  · rw [STEP_main_v12_12]
    intro a b c j ha
    rw [next_R t]
    split
    · next e => rw [e]; rfl
    · next e => exact h.r a b c j (by omega)

/-- The samples laid out by batch entry and place. -/
theorem split_is {X : Vec Ideal S32x64x1024 .f32} {R : Fin 32 → Fin 64 → Fin 1024 → ℝ} (hX : Is3 X R) (a : Fin 32) (b : Fin 2)
    (c : Fin 32) (j : Fin 1024) : shapeCast S32x2x32x1024 X shapeCasts_S32x64x1024_S32x2x32x1024 (ix4 a b c j) = ((R a ⟨32 * b.1 + c.1, by omega⟩ j : ℝ) : EReal) := by
  pointwise
  refine (hX _ _ _).trans (congrArg (fun i : Fin 64 => ((R a i j : ℝ) : EReal)) (Fin.ext ?_))
  show b.1 * 32 + c.1 = 32 * b.1 + c.1
  omega

/-- The word of zero. -/
theorem zero_word : FloatOps.ofBits (F := Ideal) (φ := .f32) 0#32 = ((0 : ℝ) : EReal) := by
  pointwise
  rw [EReal.coe_zero]

variable {m : (ℓ : Loc nD τ sig) → Buf (Elt Ideal) ℓ} {c : Dev nD} {A : Args}

section
variable (h : Holds A (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)))
include h

/-- The loop's entry. -/
theorem at_entry : At (entryContents preI m c) A 0 := by
  constructor
  · exact ctr_entry m c
  · intro a b d j
    simp only [entryContents, afterL_cons, afterL_nil]
    after_reads_simp
    exact split_is h.q a b d j
  · intro a b d j
    simp only [entryContents, afterL_cons, afterL_nil]
    after_reads_simp
    exact split_is h.k a b d j
  · intro a b d j
    simp only [entryContents, afterL_cons, afterL_nil]
    after_reads_simp
    exact split_is h.v a b d j
  · intro a
    simp only [entryContents, afterL_cons, afterL_nil]
    after_reads_simp
    pointwise
    exact h.p a 0
  · intro a
    simp only [entryContents, afterL_cons, afterL_nil]
    after_reads_simp
    pointwise
    exact h.p a 1
  · intro a
    simp only [entryContents, afterL_cons, afterL_nil]
    after_reads_simp
    pointwise
    exact h.p a 2
  · simp only [entryContents, afterL_cons, afterL_nil]
    after_reads_simp
    exact h.o
  · simp only [entryContents, afterL_cons, afterL_nil]
    after_reads_simp
    exact h.w
  · simp only [entryContents, afterL_cons, afterL_nil]
    after_reads_simp
    exact h.u
  · intro i j
    simp only [entryContents, afterL_cons, afterL_nil]
    after_reads_simp
    exact zero_word
  · intro i j
    simp only [entryContents, afterL_cons, afterL_nil]
    after_reads_simp
    exact zero_word
  · intro a b d j ha
    exact absurd ha (Nat.not_lt_zero _)

/-- Every trip. -/
theorem at_trip : ∀ n, n ≤ 32 → At (STEP^[n] (entryContents preI m c)) A n
  | 0, _ => at_entry h
  | n + 1, hn => by
    rw [Function.iterate_succ_apply']
    exact (at_trip n (by omega)).next (by omega)

/-- The reference's result. -/
theorem reference_out : out_main_v13 (STEP^[32] (entryContents preI m c))
    = fun y : (⟨4, ![2, 32, 32, 512]⟩ : Shape).Idx =>
        ((A.ans (y 1).val ⟨32 * (y 0).val + (y 2).val, by have h0 : (y 0).val < 2 := (y 0).isLt; have h2 : (y 2).val < 32 := (y 2).isLt; omega⟩ (y 3) : ℝ) : EReal) := by
  have f := (at_trip h 32 le_rfl).r
  generalize STEP^[32] (entryContents preI m c) = X at f
  funext y
  have hy : y = ix4 (y 0) (y 1) (y 2) (y 3) := by funext a; fin_cases a <;> rfl
  rw [hy]
  refine Eq.trans ?_ (f (y 1) (y 0) (y 2) (y 3) (y 1).isLt)
  unfold out_main_v13
  pointwise

end

end Cert.Scan

end
-- ==== Proof.Given.lean ====
/- What the precondition says: every entry of the arguments is a real number. -/
module

public import proofs.«01_k».proof.Proof.Kern
public import Idealize.ShloMosaic.Lib.ReduceAll

@[expose] public section

noncomputable section

namespace Cert.Scan

open Idealize.ShloMosaic Matrix

/-- The precondition's side conditions. -/
instance given_facts : Cert.Pre_finite_args.Facts where
  bcast_S_S32x64x1024 := by decide
  reducesTo_S32x64x1024_S_d0_1_2 := by decide
  h_S_ := by decide
  bcast_S_S32x3 := by decide
  reducesTo_S32x3_S_d0_1 := by decide
  bcast_S_S1024x2048 := by decide
  reducesTo_S1024x2048_S_d0_1 := by decide
  bcast_S_S2048x1024 := by decide
  reducesTo_S2048x1024_S_d0_1 := by decide
  bcast_S_S1024x512 := by decide
  reducesTo_S1024x512_S_d0_1 := by decide

/-- The word of the positive infinity. -/
theorem top_word : FloatOps.ofBits (F := Ideal) (φ := .f32) 0x7F800000#32 = (⊤ : EReal) := by
  show Ideal.ofBits .f32 0x7F800000#32 = ⊤
  simp [Ideal.ofBits, Ideal.ieee]

/-- The word of the negative infinity. -/
theorem bot_word : FloatOps.ofBits (F := Ideal) (φ := .f32) 0xFF800000#32 = (⊥ : EReal) := by
  show Ideal.ofBits .f32 0xFF800000#32 = ⊥
  simp [Ideal.ofBits, Ideal.ieee]

/-- An index of a scalar is the only one. -/
theorem scalar_idx : Subsingleton (⟨0, ![]⟩ : Shape).Idx := ⟨fun _ _ => funext fun i => i.elim0⟩

/-- A number between the infinities is real. -/
theorem between (x : EReal) (h : IntOp.andi (Ideal.cmp .olt x ⊤) (Ideal.cmp .ogt x ⊥) = 1#1) : ((x.toReal : ℝ) : EReal) = x := by
  obtain ⟨h1, h2⟩ := IntOp.andi_eq_one.1 h
  have t : x ≠ ⊤ := by
    rintro rfl
    simp [Ideal.cmp] at h1
  have b : x ≠ ⊥ := by
    rintro rfl
    simp [Ideal.cmp] at h2
  exact EReal.coe_toReal t b

/-- An array tested finite holds real numbers. -/
theorem given_all {s : Shape} {axes : List (Fin s.rank)} (x : FVec Ideal s .f32) (hb : (⟨0, ![]⟩ : Shape).BroadcastsInDim s (![] : Fin 0 → Fin s.rank))
    (hr : s.ReducesTo axes ⟨0, ![]⟩) (hp : 0 < (⟨0, ![]⟩ : Shape).numel)
    (e : Host.reduce IntOp.andi (andi (cmpf .olt x (broadcastInDim s ![] hb (constant (F := Ideal) ⟨0, ![]⟩ .f32 0x7F800000#32)))
      (cmpf .ogt x (broadcastInDim s ![] hb (constant (F := Ideal) ⟨0, ![]⟩ .f32 0xFF800000#32)))) (constantI ⟨0, ![]⟩ 1 1#1) hr hp ix0 = 1#1)
    (i : s.Idx) : (((x i : EReal).toReal : ℝ) : EReal) = x i := by
  haveI := scalar_idx
  have f := Host.reduce_andi_all _ _ hr hp ix0 e i
  refine between (x i) ?_
  rw [← top_word, ← bot_word]
  exact f

/-- The arguments as real numbers. -/
theorem given (a0 a1 a2 : FVec Ideal ⟨3, ![32, 64, 1024]⟩ .f32) (a3 : FVec Ideal ⟨2, ![32, 3]⟩ .f32)
    (a4 : FVec Ideal ⟨2, ![1024, 2048]⟩ .f32) (a5 : FVec Ideal ⟨2, ![2048, 1024]⟩ .f32) (a6 : FVec Ideal ⟨2, ![1024, 512]⟩ .f32)
    (h : Cert.Pre_finite_args.fn (F := Ideal) a0 a1 a2 a3 a4 a5 a6 = fun _ => 1#1) : ∃ A, Holds A a0 a1 a2 a3 a4 a5 a6 := by
  have e := congrFun h ix0
  unfold Cert.Pre_finite_args.fn Cert.Pre_finite_args.fn_part1 Cert.Pre_finite_args.fn_part2 at e
  obtain ⟨e, f6⟩ := IntOp.andi_eq_one.1 e
  obtain ⟨e, f5⟩ := IntOp.andi_eq_one.1 e
  obtain ⟨e, f4⟩ := IntOp.andi_eq_one.1 e
  obtain ⟨e, f3⟩ := IntOp.andi_eq_one.1 e
  obtain ⟨e, f2⟩ := IntOp.andi_eq_one.1 e
  obtain ⟨f0, f1⟩ := IntOp.andi_eq_one.1 e
  refine ⟨⟨fun a i j => (a0 (ix3 a i j) : EReal).toReal, fun a i j => (a1 (ix3 a i j) : EReal).toReal,
    fun a i j => (a2 (ix3 a i j) : EReal).toReal, fun a i => (a3 (ix2 a i) : EReal).toReal, fun i j => (a4 (ix2 i j) : EReal).toReal,
    fun i j => (a5 (ix2 j i) : EReal).toReal, fun i j => (a6 (ix2 i j) : EReal).toReal⟩, ?_, ?_, ?_, ?_, ?_, ?_, ?_⟩
  · exact fun i j k => (given_all a0 _ _ _ f0 _).symm
  · exact fun i j k => (given_all a1 _ _ _ f1 _).symm
  · exact fun i j k => (given_all a2 _ _ _ f2 _).symm
  · exact fun i j => (given_all a3 _ _ _ f3 _).symm
  · exact fun i j => (given_all a4 _ _ _ f4 _).symm
  · exact fun i j => (given_all a5 _ _ _ f5 _).symm
  · exact fun i j => (given_all a6 _ _ _ f6 _).symm

end Cert.Scan

end
-- ==== Proof.Equal.lean ====
/- The two programs over the real numbers end with the same result. -/
module

public import proofs.«01_k».proof.Proof.RefE
public import proofs.«01_k».proof.Proof.Given
public import proofs.«01_k».proof.Proof.Frames

@[expose] public section

noncomputable section

namespace Cert.Scan

open Idealize.ShloMosaic Idealize.SL.Sem

/-- The reference's frame, whatever the arguments. -/
theorem reference_frame_pre : Cert.quiescent_ReferenceIdeal_pre_finite_args :=
  fun m ρ _ => reference_frame m ρ trivial

/-- The kernel's frame, whatever the arguments. -/
theorem kernel_frame_pre : Cert.quiescent_KernelIdeal_pre_finite_args :=
  fun m ρ _ => Cert.KernelIdeal.Gen.frame m ρ

/-- From finite arguments the kernel and the reference end with the same result. -/
theorem equal : Cert.algebraic_KernelIdeal_ReferenceIdeal_pre_finite_args := by
  intro m g m' g' hpre hm
  choose A hA using fun c => given _ _ _ _ _ _ _ (hpre c)
  refine ⟨fun c => fun y : (⟨4, ![2, 32, 32, 512]⟩ : Shape).Idx =>
    (((A c).ans (y 1).val ⟨32 * (y 0).val + (y 2).val, by have h0 : (y 0).val < 2 := (y 0).isLt; have h2 : (y 2).val < 32 := (y 2).isLt; omega⟩ (y 3) : ℝ) : EReal), ?_, ?_⟩
  · refine (θ_run _ _ _).mono (fun r h c => ⟨?_, h.2 c⟩) (θ_run_and (Cert.KernelIdeal.Gen.run_main m g) (Cert.KernelIdeal.Gen.unchanged m g))
    exact (h.1.out_eq c 5).trans (kernel_out (hA c))
  · refine (θ_run _ _ _).mono (fun r h c => ⟨(h c).1.trans ?_, (h c).2⟩) (Cert.ReferenceIdeal.Value.run m' g')
    refine reference_out ?_
    obtain ⟨e0, e1, e2, e3, e4, e5, e6⟩ := hm c
    rw [e0, e1, e2, e3, e4, e5, e6]
    exact hA c

end Cert.Scan

end
-- ==== Proof.Combine.lean ====
/- The call that combines the retrieved rows with the input, against the last lines of the reference. -/
module

public import proofs.«01_k».proof.Defs
public import proofs.«01_k».proof.Proof.Gen.Combine.Frame
public import proofs.«01_k».proof.Proof.Gen.CombineIdeal.Value
public import proofs.«01_k».proof.Proof.Gen.CombineReferenceIdeal.Run
public import Idealize.ShloMosaic.Lib.Pipeline.ValueKit
public import Idealize.ShloMosaic.Lib.Pipeline.ValueKit.Point
public import Idealize.ShloMosaic.Lib.Quiescent
public import Idealize.ShloMosaic.Adequacy
public import Idealize.ShloMosaic.Init

@[expose] public section

noncomputable section

namespace Cert.Comb

open Idealize.ShloMosaic Idealize.ShloMosaic.TcCoe Idealize.SL.Sem

/-- The result at an index: the input, and the gated product of the row retrieved with the output weights' row. -/
def result (x : Vec Ideal ⟨2, ![2048, 2048]⟩ .f32) (r w : Vec Ideal ⟨2, ![2048, 512]⟩ .f32) (g : Vec Ideal ⟨2, ![2048, 1]⟩ .f32) :
    Vec Ideal ⟨2, ![2048, 2048]⟩ .f32 :=
  fun y => (x y : EReal) + (∑ k : Fin 512, (r (ix2 (y 0) k) : EReal) * (w (ix2 (y 1) k) : EReal)) * (g (ix2 (y 0) 0) : EReal)

section
open Cert.CombineIdeal Cert.CombineIdeal.Gen

/-- The blocks' places. -/
theorem places : ∀ t : Fin cfg0.N, win0_0.index t = ![t.val, 0] ∧ win0_1.index t = ![t.val, 0]
    ∧ win0_2.index t = ![0, 0] ∧ win0_3.index t = ![t.val, 0] ∧ win0_4.index t = ![t.val, 0] := by decide +kernel

/-- The kernel's result. -/
theorem kernel_out (m : (ℓ : Loc nD τ sig) → Buf (Elt Ideal) ℓ) (c : Dev nD) : (dats m 0 c).arrAt 4 cfg0.N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨e0, e1, e2, e3, e4⟩ := places t
  blk_simp
  rw [after0_4]
  frame_out
  pointwise [k0_pay1, result]
  blk_point [iblk, V_main_arg0, V_main_arg1, V_main_arg2, V_main_arg3, e0, e1, e2, e3, e4]

end

section
open Cert.CombineReferenceIdeal Cert.CombineReferenceIdeal.Gen

/-- The reference's result. -/
theorem reference_out (x : FVec Ideal S2048x2048 .f32) (r w : FVec Ideal S2048x512 .f32) (g : FVec Ideal S2048x1 .f32) :
    addf (F := Ideal) x (mulf (Host.dotGeneral dot_S2048x512_S512x2048_S2048x2048_1_0_0_1_n_n none r
      (transpose S512x2048 [1, 0] w transposes_S2048x512_S512x2048_1_0)) (broadcastInDim S2048x2048 ![0, 1] bcast_S2048x1_S2048x2048_0_1 g))
      = result x r w g := by
  funext y
  pointwise [result]

end

/-- The reference's frame. -/
theorem reference_frame : Cert.quiescent_CombineReferenceIdeal :=
  fun m ρ _ => (θ_run _ _ _).mono (fun r h => ⟨fun c => (h c).2, sem_eq_zero_of_no_sems (by decide) r.2⟩)
    (Cert.CombineReferenceIdeal.Value.run m ρ)

/-- The kernel and the reference end with the same result. -/
theorem equal : Cert.algebraic_CombineIdeal_CombineReferenceIdeal := by
  intro m g m' g' _ hm
  refine ⟨fun c => result (m ((c : Thread Cert.CombineIdeal.nD Cert.CombineIdeal.τ).loc Cert.CombineIdeal.main_arg0))
    (m ((c : Thread Cert.CombineIdeal.nD Cert.CombineIdeal.τ).loc Cert.CombineIdeal.main_arg1))
    (m ((c : Thread Cert.CombineIdeal.nD Cert.CombineIdeal.τ).loc Cert.CombineIdeal.main_arg2))
    (m ((c : Thread Cert.CombineIdeal.nD Cert.CombineIdeal.τ).loc Cert.CombineIdeal.main_arg3)), ?_, ?_⟩
  · exact (θ_run _ _ _).mono (fun r h c => ⟨(h c).1.trans (kernel_out m c), (h c).2⟩) (Cert.CombineIdeal.Value.run_blocks m g)
  · refine (θ_run _ _ _).mono (fun r h c => ⟨(h c).1.trans ?_, (h c).2⟩) (Cert.CombineReferenceIdeal.Value.run m' g')
    obtain ⟨e0, e1, e2, e3⟩ := hm c
    rw [e0, e1, e2, e3]
    exact reference_out _ _ _ _

end Cert.Comb

end
-- ==== Proof.Project.lean ====
/- The call that projects the input, against the projections and gates of the reference. -/
module

public import proofs.«01_k».proof.Defs
public import proofs.«01_k».proof.Proof.Gen.Project.Frame
public import proofs.«01_k».proof.Proof.Gen.ProjectIdeal.Value
public import proofs.«01_k».proof.Proof.Gen.ProjectReferenceIdeal.Run
public import Idealize.ShloMosaic.Lib.Pipeline.ValueKit
public import Idealize.ShloMosaic.Lib.Pipeline.ValueKit.Point
public import Idealize.ShloMosaic.Lib.Quiescent
public import Idealize.ShloMosaic.Adequacy
public import Idealize.ShloMosaic.Init
public import proofs.«01_k».proof.Proof.Up

@[expose] public section

noncomputable section

namespace Cert.Proj

open Idealize.ShloMosaic Idealize.ShloMosaic.TcCoe Idealize.SL.Sem

/-- One entry of the product of the input with a transposed weight matrix. -/
def lin {n : ℕ} (x : FVec Ideal ⟨2, ![n, 2048]⟩ .f32) (w : FVec Ideal ⟨2, ![512, 2048]⟩ .f32) (i : Fin n) (k : Fin 512) : EReal :=
  ∑ l : Fin 2048, (x (ix2 i l) : EReal) * (w (ix2 k l) : EReal)

/-- A row divided by the larger of its norm and the floor. -/
def direction (f : Fin 512 → EReal) (k : Fin 512) : EReal :=
  Ideal.div (f k) (max (Ideal.sqrt (∑ l, f l * f l)) (Ideal.ofBits .f32 0x2B8CBCCC#32))

/-- The features of a row: the divided row, then its squares. -/
def both (f : Fin 512 → EReal) (j : Fin 1024) : EReal :=
  if h : j.val < 512 then direction f ⟨j.val, h⟩ else direction f ⟨j.val - 512, by omega⟩ * direction f ⟨j.val - 512, by omega⟩

/-- The features, divided by the root of two. -/
def feature (f : Fin 512 → EReal) (j : Fin 1024) : EReal := both f j * (((Real.sqrt 2)⁻¹ : ℝ) : EReal)

/-- One entry of the values. -/
def value (f : Fin 512 → EReal) (e : FVec Ideal ⟨2, ![512, 1024]⟩ .f32) (j : Fin 1024) : EReal := ∑ k : Fin 512, f k * (e (ix2 k j) : EReal)

/-- One gate. -/
def gate {n : ℕ} (x : FVec Ideal ⟨2, ![n, 2048]⟩ .f32) (w : FVec Ideal ⟨2, ![4, 2048]⟩ .f32) (b : FVec Ideal ⟨2, ![4, 1]⟩ .f32)
    (a : Fin 4) (i : Fin n) : EReal :=
  Ideal.logistic ((∑ l : Fin 2048, (w (ix2 a l) : EReal) * (x (ix2 i l) : EReal)) + (b (ix2 a 0) : EReal))

/-- The row of the input behind a place of a chunk. -/
def row (z : Fin 32) (p : Fin 64) : Fin 2048 := ⟨p.val / 32 * 1024 + z.val * 32 + p.val % 32, by omega⟩

/-- Keys or queries. -/
def features (x : FVec Ideal ⟨2, ![2048, 2048]⟩ .f32) (w : FVec Ideal ⟨2, ![512, 2048]⟩ .f32) : FVec Ideal ⟨3, ![32, 64, 1024]⟩ .f32 :=
  fun y => feature (lin x w (row (y 0) (y 1))) (y 2)

/-- Values. -/
def values (x : FVec Ideal ⟨2, ![2048, 2048]⟩ .f32) (w : FVec Ideal ⟨2, ![512, 2048]⟩ .f32) (e : FVec Ideal ⟨2, ![512, 1024]⟩ .f32) :
    FVec Ideal ⟨3, ![32, 64, 1024]⟩ .f32 :=
  fun y => value (lin x w (row (y 0) (y 1))) e (y 2)

/-- Gates. -/
def gates (x : FVec Ideal ⟨2, ![2048, 2048]⟩ .f32) (w : FVec Ideal ⟨2, ![4, 2048]⟩ .f32) (b : FVec Ideal ⟨2, ![4, 1]⟩ .f32) :
    FVec Ideal ⟨2, ![4, 2048]⟩ .f32 :=
  fun y => gate x w b (y 0) (y 1)

section
open Cert.ProjectIdeal Cert.ProjectIdeal.Gen

/-- A block's rows, each divided by its norm. -/
def rowsK (t : FVec Ideal S256x512 .f32) : FVec Ideal S256x512 .f32 :=
  divf t (broadcastTo S256x512 (maximumf (sqrt (shapeCast S256x1
    (multiReduction .add [1] S256 (mulf t t) 0x00000000#32 reduces_S256x512_S256 (.inl rfl) rfl) shapeCasts_S256_S256x1))
    (broadcast S256x1 (Scalar.ofBits .f32 0x2B8CBCCC#32))) broadcasts_S256x1_S256x512)

/-- The divided rows at an index. -/
theorem rowsK_at (t : FVec Ideal S256x512 .f32) (i : Fin 256) (k : Fin 512) :
    rowsK t (ix2 i k) = direction (fun k => t (ix2 i k)) k := by
  pointwise [rowsK, direction]

/-- Two matrices side by side, at an index. -/
theorem pairK_at (u v : FVec Ideal S256x512 .f32) (i : Fin 256) (j : Fin 1024) :
    concatenate S256x1024 1 [⟨S256x512, u⟩, ⟨S256x512, v⟩] concatenates_S256x512_S256x512_S256x1024_d1 (ix2 i j)
      = if h : j.val < 512 then u (ix2 i ⟨j.val, h⟩) else v (ix2 i ⟨j.val - 512, by omega⟩) := by
  pointwise

/-- The features of a block's rows. -/
def featK (t : FVec Ideal S256x512 .f32) : FVec Ideal S8x32x1024 .f32 :=
  shapeCast S8x32x1024 (mulf (concatenate S256x1024 1 [⟨S256x512, rowsK t⟩, ⟨S256x512, mulf (rowsK t) (rowsK t)⟩]
    concatenates_S256x512_S256x512_S256x1024_d1) (broadcast S256x1024 (Named.named κ "inv_sqrt2" 0x3F3504F3#32)))
    shapeCasts_S256x1024_S8x32x1024

/-- The named constant is the inverse of the root of two. -/
theorem inv_root : (Named.named κ "inv_sqrt2" 0x3F3504F3#32 : Ideal .f32) = (((Real.sqrt 2)⁻¹ : ℝ) : EReal) :=
  IdealRules.named_const.ideal_named_scalar _ _ _ _ rfl

/-- The features of a block's rows, at an index. -/
theorem featK_at (t : FVec Ideal S256x512 .f32) (a : Fin 8) (c : Fin 32) (j : Fin 1024) :
    featK t (ix3 a c j) = feature (fun k => t (ix2 ⟨a.val * 32 + c.val, by omega⟩ k)) j := by
  have e : featK t (ix3 a c j) = concatenate S256x1024 1 [⟨S256x512, rowsK t⟩, ⟨S256x512, mulf (rowsK t) (rowsK t)⟩]
      concatenates_S256x512_S256x512_S256x1024_d1 (ix2 ⟨a.val * 32 + c.val, by omega⟩ j)
      * (Named.named κ "inv_sqrt2" 0x3F3504F3#32 : Ideal .f32) := by
    pointwise [featK]
  refine e.trans ?_
  rw [pairK_at, inv_root]
  unfold feature both
  congr 1
  split
  · exact rowsK_at _ _ _
  · exact congrArg (fun r : EReal => r * r) (rowsK_at _ _ _)

/-- The rows of a block's product. -/
def prodK (X : FVec Ideal S256x2048 .f32) (W : FVec Ideal S512x2048 .f32) : FVec Ideal S256x512 .f32 :=
  matmul dot_S256x2048_S512x2048_S256x512_1_1_0_0_n_n none X W (constant S256x512 .f32 0x00000000#32)

/-- The product at an index. -/
theorem prodK_at (X : Vec Ideal S256x2048 .f32) (W : Vec Ideal S512x2048 .f32) (i : Fin 256) (k : Fin 512) :
    prodK X W (ix2 i k) = lin X W i k := by
  pointwise [prodK, lin]

/-- The keys stored for a block. -/
theorem pay3_at (X : Vec Ideal S256x2048 .f32) (W : Vec Ideal S512x2048 .f32) (a : Fin 8) (c : Fin 32) (j : Fin 1024) :
    k0_pay3 X W (ix3 a c j) = feature (lin X W ⟨a.val * 32 + c.val, by omega⟩) j := by
  have e : k0_pay3 X W = featK (prodK X W) := rfl
  rw [e, featK_at]
  exact congrArg (fun f => feature f j) (funext fun k => prodK_at X W _ k)

/-- The queries stored for a block. -/
theorem pay4_at (X : Vec Ideal S256x2048 .f32) (W : Vec Ideal S512x2048 .f32) (a : Fin 8) (c : Fin 32) (j : Fin 1024) :
    k0_pay4 X W (ix3 a c j) = feature (lin X W ⟨a.val * 32 + c.val, by omega⟩) j := pay3_at X W a c j

/-- The values stored for a block. -/
theorem pay1_at (X : Vec Ideal S256x2048 .f32) (W : Vec Ideal S512x2048 .f32) (E : Vec Ideal S512x1024 .f32) (a : Fin 8) (c : Fin 32) (j : Fin 1024) :
    k0_pay1 X W E (ix3 a c j) = value (lin X W ⟨a.val * 32 + c.val, by omega⟩) E j := by
  pointwise [k0_pay1, value, lin]

/-- The gates stored for a block. -/
theorem pay2_at (X : Vec Ideal S256x2048 .f32) (W : Vec Ideal S4x2048 .f32) (E : Vec Ideal S4x1 .f32) (a : Fin 4) (i : Fin 256) :
    k0_pay2 X W E (ix2 a i) = gate X W E a i := by
  pointwise [k0_pay2, gate]

/-- The blocks' places. -/
theorem places : ∀ t : Fin cfg0.N, win0_0.index t = ![4 * (t.val % 2) + t.val / 2, 0] ∧ win0_1.index t = ![0, 0]
    ∧ win0_2.index t = ![0, 0] ∧ win0_3.index t = ![0, 0] ∧ win0_4.index t = ![0, 0] ∧ win0_5.index t = ![0, 0] ∧ win0_6.index t = ![0, 0]
    ∧ win0_7.index t = ![t.val / 2, t.val % 2, 0] ∧ win0_8.index t = ![t.val / 2, t.val % 2, 0] ∧ win0_9.index t = ![t.val / 2, t.val % 2, 0]
    ∧ win0_10.index t = ![0, 4 * (t.val % 2) + t.val / 2] := by decide +kernel

/-- The input's row behind a row of a block. -/
def place (t : Fin cfg0.N) (i : Fin 256) : Fin 2048 :=
  ⟨256 * (4 * (t.val % 2) + t.val / 2) + i.val, by have h : t.val < 8 := t.isLt; omega⟩

variable (m : (ℓ : Loc nD τ sig) → Buf (Elt Ideal) ℓ) (c : Dev nD)

/-- A block of the input. -/
theorem blk_x (t : Fin cfg0.N) (i : Fin 256) (l : Fin 2048) :
    iblk m c 0 t (ix2 i l) = m ((c : Thread nD τ).loc main_arg0) (ix2 (place t i) l) := by
  blk_ext [iblk, V_main_arg0, (places t).1, place]

/-- The keys' weights. -/
theorem blk_k (t : Fin cfg0.N) (i : Fin 512) (l : Fin 2048) :
    iblk m c 1 t (ix2 i l) = m ((c : Thread nD τ).loc main_arg1) (ix2 i l) := by
  blk_ext [iblk, V_main_arg1, (places t).2.1]

/-- The queries' weights. -/
theorem blk_q (t : Fin cfg0.N) (i : Fin 512) (l : Fin 2048) :
    iblk m c 2 t (ix2 i l) = m ((c : Thread nD τ).loc main_arg2) (ix2 i l) := by
  blk_ext [iblk, V_main_arg2, (places t).2.2.1]

/-- The values' weights. -/
theorem blk_v (t : Fin cfg0.N) (i : Fin 512) (l : Fin 2048) :
    iblk m c 3 t (ix2 i l) = m ((c : Thread nD τ).loc main_arg3) (ix2 i l) := by
  blk_ext [iblk, V_main_arg3, (places t).2.2.2.1]

/-- The values' expansion. -/
theorem blk_e (t : Fin cfg0.N) (i : Fin 512) (l : Fin 1024) :
    iblk m c 4 t (ix2 i l) = m ((c : Thread nD τ).loc main_arg4) (ix2 i l) := by
  blk_ext [iblk, V_main_arg4, (places t).2.2.2.2.1]

/-- The gates' weights. -/
theorem blk_g (t : Fin cfg0.N) (i : Fin 4) (l : Fin 2048) :
    iblk m c 5 t (ix2 i l) = m ((c : Thread nD τ).loc main_arg5) (ix2 i l) := by
  blk_ext [iblk, V_main_arg5, (places t).2.2.2.2.2.1]

/-- The gates' offsets. -/
theorem blk_b (t : Fin cfg0.N) (i : Fin 4) (l : Fin 1) :
    iblk m c 6 t (ix2 i l) = m ((c : Thread nD τ).loc main_arg6) (ix2 i l) := by
  blk_ext [iblk, V_main_arg6, (places t).2.2.2.2.2.2.1]

/-- Products of equal rows. -/
theorem lin_congr {n n' : ℕ} {x : FVec Ideal ⟨2, ![n, 2048]⟩ .f32} {x' : FVec Ideal ⟨2, ![n', 2048]⟩ .f32}
    {w w' : FVec Ideal ⟨2, ![512, 2048]⟩ .f32} {i : Fin n} {i' : Fin n'} (hx : ∀ l, x (ix2 i l) = x' (ix2 i' l))
    (hw : ∀ k l, w (ix2 k l) = w' (ix2 k l)) : lin x w i = lin x' w' i' := by
  funext k
  simp only [lin, hx, hw]

/-- A place of a block and a row of the input behind it. -/
theorem place_row (t : Fin cfg0.N) (a : Fin 8) (b : Fin 32) (z : Fin 32) (p : Fin 64) (hz : z.val = t.val / 2 * 8 + a.val)
    (hp : p.val = t.val % 2 * 32 + b.val) : place t ⟨a.val * 32 + b.val, by omega⟩ = row z p := by
  have h : t.val < 8 := t.isLt
  refine Fin.ext ?_
  show 256 * (4 * (t.val % 2) + t.val / 2) + (a.val * 32 + b.val) = p.val / 32 * 1024 + z.val * 32 + p.val % 32
  omega

/-- A block's row of products is a row of the products. -/
theorem lin_blk {x : FVec Ideal ⟨2, ![256, 2048]⟩ .f32} {x' : FVec Ideal ⟨2, ![2048, 2048]⟩ .f32} {w w' : FVec Ideal ⟨2, ![512, 2048]⟩ .f32}
    (t : Fin cfg0.N) (hx : ∀ i l, x (ix2 i l) = x' (ix2 (place t i) l)) (hw : ∀ k l, w (ix2 k l) = w' (ix2 k l))
    (a : Fin 8) (b : Fin 32) (z : Fin 32) (p : Fin 64) (hz : z.val = t.val / 2 * 8 + a.val) (hp : p.val = t.val % 2 * 32 + b.val) :
    lin x w ⟨a.val * 32 + b.val, by omega⟩ = lin x' w' (row z p) :=
  lin_congr (fun l => by rw [hx, place_row t a b z p hz hp]) hw

/-- Equal features. -/
theorem feature_congr {f f' : Fin 512 → EReal} {j j' : Fin 1024} (hf : f = f') (hj : j'.val = j.val) : feature f j = feature f' j' := by
  rw [hf, Fin.ext hj]

/-- Equal values. -/
theorem value_congr {f f' : Fin 512 → EReal} {e e' : FVec Ideal ⟨2, ![512, 1024]⟩ .f32} {j j' : Fin 1024} (hf : f = f')
    (he : ∀ k l, e (ix2 k l) = e' (ix2 k l)) (hj : j'.val = j.val) : value f e j = value f' e' j' := by
  rw [hf, Fin.ext hj]
  simp only [value, he]

/-- Equal gates. -/
theorem gate_congr {n n' : ℕ} {x : FVec Ideal ⟨2, ![n, 2048]⟩ .f32} {x' : FVec Ideal ⟨2, ![n', 2048]⟩ .f32}
    {w w' : FVec Ideal ⟨2, ![4, 2048]⟩ .f32} {b b' : FVec Ideal ⟨2, ![4, 1]⟩ .f32} {a a' : Fin 4} {i : Fin n} {i' : Fin n'}
    (hx : ∀ l, x (ix2 i l) = x' (ix2 i' l)) (hw : ∀ k l, w (ix2 k l) = w' (ix2 k l)) (hb : ∀ k l, b (ix2 k l) = b' (ix2 k l))
    (ha : a'.val = a.val) : gate x w b a i = gate x' w' b' a' i' := by
  rw [Fin.ext ha]
  simp only [gate, hx, hw, hb]

/-- The keys. -/
theorem kernel_keys : (dats m 0 c).arrAt 7 cfg0.N
    = features (m ((c : Thread nD τ).loc main_arg0)) (m ((c : Thread nD τ).loc main_arg1)) := by
  refine (dats m 0 c).arrAt_eq_of_covers 7 _ (by decide +kernel) fun t hf y => ?_
  have hy : y = ix3 (y 0) (y 1) (y 2) := by funext a; fin_cases a <;> rfl
  have hz : ((((cfg0.win 7).blk t).view.emb y) 0).val = t.val / 2 * 8 + (y 0).val := by blk_simp [(places t).2.2.2.2.2.2.2.1]
  have hp : ((((cfg0.win 7).blk t).view.emb y) 1).val = t.val % 2 * 32 + (y 1).val := by blk_simp [(places t).2.2.2.2.2.2.2.1]
  have hj : ((((cfg0.win 7).blk t).view.emb y) 2).val = (y 2).val := by blk_simp [(places t).2.2.2.2.2.2.2.1]
  blk_simp [(places t).2.2.2.2.2.2.2.1]
  rw [after0_7]
  frame_out
  refine (congrArg (k0_pay3 (iblk m c 0 t) (iblk m c 1 t)) hy).trans ((pay3_at (iblk m c 0 t) (iblk m c 1 t) (y 0) (y 1) (y 2)).trans ?_)
  exact feature_congr (lin_blk t (blk_x m c t) (blk_k m c t) (y 0) (y 1) _ _ hz hp) hj

/-- The queries. -/
theorem kernel_queries : (dats m 0 c).arrAt 8 cfg0.N
    = features (m ((c : Thread nD τ).loc main_arg0)) (m ((c : Thread nD τ).loc main_arg2)) := by
  refine (dats m 0 c).arrAt_eq_of_covers 8 _ (by decide +kernel) fun t hf y => ?_
  have hy : y = ix3 (y 0) (y 1) (y 2) := by funext a; fin_cases a <;> rfl
  have hz : ((((cfg0.win 8).blk t).view.emb y) 0).val = t.val / 2 * 8 + (y 0).val := by blk_simp [(places t).2.2.2.2.2.2.2.2.1]
  have hp : ((((cfg0.win 8).blk t).view.emb y) 1).val = t.val % 2 * 32 + (y 1).val := by blk_simp [(places t).2.2.2.2.2.2.2.2.1]
  have hj : ((((cfg0.win 8).blk t).view.emb y) 2).val = (y 2).val := by blk_simp [(places t).2.2.2.2.2.2.2.2.1]
  blk_simp [(places t).2.2.2.2.2.2.2.2.1]
  rw [after0_8]
  frame_out
  refine (congrArg (k0_pay4 (iblk m c 0 t) (iblk m c 2 t)) hy).trans ((pay4_at (iblk m c 0 t) (iblk m c 2 t) (y 0) (y 1) (y 2)).trans ?_)
  exact feature_congr (lin_blk t (blk_x m c t) (blk_q m c t) (y 0) (y 1) _ _ hz hp) hj

/-- The values. -/
theorem kernel_values : (dats m 0 c).arrAt 9 cfg0.N
    = values (m ((c : Thread nD τ).loc main_arg0)) (m ((c : Thread nD τ).loc main_arg3)) (m ((c : Thread nD τ).loc main_arg4)) := by
  refine (dats m 0 c).arrAt_eq_of_covers 9 _ (by decide +kernel) fun t hf y => ?_
  have hy : y = ix3 (y 0) (y 1) (y 2) := by funext a; fin_cases a <;> rfl
  have hz : ((((cfg0.win 9).blk t).view.emb y) 0).val = t.val / 2 * 8 + (y 0).val := by blk_simp [(places t).2.2.2.2.2.2.2.2.2.1]
  have hp : ((((cfg0.win 9).blk t).view.emb y) 1).val = t.val % 2 * 32 + (y 1).val := by blk_simp [(places t).2.2.2.2.2.2.2.2.2.1]
  have hj : ((((cfg0.win 9).blk t).view.emb y) 2).val = (y 2).val := by blk_simp [(places t).2.2.2.2.2.2.2.2.2.1]
  blk_simp [(places t).2.2.2.2.2.2.2.2.2.1]
  rw [after0_9]
  frame_out
  refine (congrArg (k0_pay1 (iblk m c 0 t) (iblk m c 3 t) (iblk m c 4 t)) hy).trans ((pay1_at (iblk m c 0 t) (iblk m c 3 t) (iblk m c 4 t) (y 0) (y 1) (y 2)).trans ?_)
  exact value_congr (lin_blk t (blk_x m c t) (blk_v m c t) (y 0) (y 1) _ _ hz hp) (blk_e m c t) hj

/-- The gates. -/
theorem kernel_gates : (dats m 0 c).arrAt 10 cfg0.N
    = gates (m ((c : Thread nD τ).loc main_arg0)) (m ((c : Thread nD τ).loc main_arg5)) (m ((c : Thread nD τ).loc main_arg6)) := by
  refine (dats m 0 c).arrAt_eq_of_covers 10 _ (by decide +kernel) fun t hf y => ?_
  have hy : y = ix2 (y 0) (y 1) := by funext a; fin_cases a <;> rfl
  have ha : ((((cfg0.win 10).blk t).view.emb y) 0).val = (y 0).val := by blk_simp [(places t).2.2.2.2.2.2.2.2.2.2]
  have hi : (place t (y 1)).val = ((((cfg0.win 10).blk t).view.emb y) 1).val := by
    show 256 * (4 * (t.val % 2) + t.val / 2) + (y 1).val = _
    blk_simp [(places t).2.2.2.2.2.2.2.2.2.2]
    omega
  blk_simp [(places t).2.2.2.2.2.2.2.2.2.2]
  rw [after0_10]
  frame_out
  refine (congrArg (k0_pay2 (iblk m c 0 t) (iblk m c 5 t) (iblk m c 6 t)) hy).trans
    ((pay2_at (iblk m c 0 t) (iblk m c 5 t) (iblk m c 6 t) (y 0) (y 1)).trans ?_)
  exact gate_congr (fun l => (blk_x m c t (y 1) l).trans (congrArg (fun i => m ((c : Thread nD τ).loc main_arg0) (ix2 i l)) (Fin.ext hi)))
    (blk_g m c t) (blk_b m c t) ha

end

section
open Cert.ProjectReferenceIdeal Cert.ProjectReferenceIdeal.Gen

/-- The reference's products. -/
def prodR (X : FVec Ideal S2048x2048 .f32) (W : FVec Ideal S512x2048 .f32) : FVec Ideal S2048x512 .f32 :=
  Host.dotGeneral dot_S2048x2048_S2048x512_S2048x512_1_0_0_1_n_n none X (transpose S2048x512 [1, 0] W transposes_S512x2048_S2048x512_1_0)

/-- The products at an index. -/
theorem prodR_at (X : FVec Ideal S2048x2048 .f32) (W : FVec Ideal S512x2048 .f32) (i : Fin 2048) (k : Fin 512) :
    prodR X W (ix2 i k) = lin X W i k := by
  pointwise [prodR, lin]

/-- The rows, each divided by its norm. -/
def rowsR (t : FVec Ideal S2048x512 .f32) : FVec Ideal S2048x512 .f32 :=
  Host.divf t (broadcastInDim S2048x512 ![0, 1] bcast_S2048x1_S2048x512_0_1 (maximumf (Host.sqrt (broadcastInDim S2048x1 ![0]
    bcast_S2048_S2048x1_0 (Host.reduceAdd (mulf t t) (constant S_ .f32 0x00000000#32) reducesTo_S2048x512_S2048_d1 h_S_)))
    (broadcastInDim S2048x1 ![] bcast_S_S2048x1 (constant S_ .f32 0x2B8CBCCC#32))))

/-- The divided rows at an index. -/
theorem rowsR_at (t : FVec Ideal S2048x512 .f32) (i : Fin 2048) (k : Fin 512) :
    rowsR t (ix2 i k) = direction (fun k => t (ix2 i k)) k := by
  pointwise [rowsR, direction]

/-- Two matrices side by side, at an index. -/
theorem pairR_at (u v : FVec Ideal S2048x512 .f32) (i : Fin 2048) (j : Fin 1024) :
    concatenate S2048x1024 1 [⟨S2048x512, u⟩, ⟨S2048x512, v⟩] concatenates_S2048x512_S2048x512_S2048x1024_d1 (ix2 i j)
      = if h : j.val < 512 then u (ix2 i ⟨j.val, h⟩) else v (ix2 i ⟨j.val - 512, by omega⟩) := by
  pointwise

/-- The features of the rows. -/
def featR (t : FVec Ideal S2048x512 .f32) : FVec Ideal S2048x1024 .f32 :=
  Host.divf (concatenate S2048x1024 1 [⟨S2048x512, rowsR t⟩, ⟨S2048x512, mulf (rowsR t) (rowsR t)⟩]
    concatenates_S2048x512_S2048x512_S2048x1024_d1) (broadcastInDim S2048x1024 ![] bcast_S_S2048x1024 (Host.sqrt (constant S_ .f32 0x40000000#32)))

/-- The quotient by the root of two is the product with its inverse. -/
theorem over_root (r : EReal) : Ideal.div r (Ideal.sqrt (Ideal.ofBits .f32 0x40000000#32)) = r * (((Real.sqrt 2)⁻¹ : ℝ) : EReal) := by
  rw [Cert.Scan.lit_two, Cert.Scan.up_sqrt 2 (by norm_num), Ideal.div,
    if_neg (by exact_mod_cast (Real.sqrt_pos.2 (by norm_num : (0 : ℝ) < 2)).ne'), EReal.coe_inv]

/-- The features at an index. -/
theorem featR_at (t : FVec Ideal S2048x512 .f32) (i : Fin 2048) (j : Fin 1024) :
    featR t (ix2 i j) = feature (fun k => t (ix2 i k)) j := by
  have e : featR t (ix2 i j) = Ideal.div (concatenate S2048x1024 1 [⟨S2048x512, rowsR t⟩, ⟨S2048x512, mulf (rowsR t) (rowsR t)⟩]
      concatenates_S2048x512_S2048x512_S2048x1024_d1 (ix2 i j)) (Ideal.sqrt (Ideal.ofBits .f32 0x40000000#32)) := by
    pointwise [featR]
  refine e.trans ((over_root _).trans ?_)
  rw [pairR_at]
  unfold feature both
  congr 1
  split
  · exact rowsR_at _ _ _
  · exact congrArg (fun r : EReal => r * r) (rowsR_at _ _ _)

/-- The rows, laid out by chunks. -/
def lay (Y : FVec Ideal S2048x1024 .f32) : FVec Ideal S32x64x1024 .f32 :=
  shapeCast _ (transpose S32x2x32x1024 [1, 0, 2, 3] (shapeCast _ Y shapeCasts_S2048x1024_S2x32x32x1024)
    transposes_S2x32x32x1024_S32x2x32x1024_1_0_2_3) shapeCasts_S32x2x32x1024_S32x64x1024

/-- The layout at an index. -/
theorem lay_at (Y : FVec Ideal S2048x1024 .f32) (z : Fin 32) (p : Fin 64) (j : Fin 1024) : lay Y (ix3 z p j) = Y (ix2 (row z p) j) := by
  pointwise [lay, row]

/-- The reference's keys, and its queries. -/
theorem reference_features (X : FVec Ideal S2048x2048 .f32) (W : FVec Ideal S512x2048 .f32) : lay (featR (prodR X W)) = features X W := by
  funext y
  have hy : y = ix3 (y 0) (y 1) (y 2) := by funext a; fin_cases a <;> rfl
  refine (congrArg (lay (featR (prodR X W))) hy).trans ((lay_at _ _ _ _).trans ((featR_at _ _ _).trans ?_))
  exact congrArg (fun f => feature f (y 2)) (funext fun k => prodR_at X W _ k)

/-- The reference's values. -/
theorem reference_values (X : FVec Ideal S2048x2048 .f32) (W : FVec Ideal S512x2048 .f32) (E : FVec Ideal S512x1024 .f32) :
    lay (Host.dotGeneral dot_S2048x512_S512x1024_S2048x1024_1_0_0_1_n_n none (prodR X W) E) = values X W E := by
  funext y
  have hy : y = ix3 (y 0) (y 1) (y 2) := by funext a; fin_cases a <;> rfl
  refine (congrArg (lay _) hy).trans ((lay_at _ _ _ _).trans ?_)
  pointwise [values, value, prodR, lin]

/-- The reference's gates. -/
theorem reference_gates (X : FVec Ideal S2048x2048 .f32) (W : FVec Ideal S4x2048 .f32) (B : FVec Ideal S4x1 .f32) :
    transpose S4x2048 [1, 0] (Host.divf (broadcastInDim S2048x4 ![] bcast_S_S2048x4 (constant (F := Ideal) S_ .f32 0x3F800000#32))
      (addf (broadcastInDim S2048x4 ![] bcast_S_S2048x4 (constant S_ .f32 0x3F800000#32)) (Host.exp (Host.negf (addf
        (Host.dotGeneral dot_S2048x2048_S4x2048_S2048x4_1_1_0_0_n_n none X W) (broadcastInDim S2048x4 ![0, 1] bcast_S1x4_S2048x4_0_1
          (broadcastInDim S1x4 ![1] bcast_S4_S1x4_1 (shapeCast _ B shapeCasts_S4x1_S4)))))))) transposes_S2048x4_S4x2048_1_0
      = gates X W B := by
  funext y
  pointwise [gates, gate]
  have e : ∑ l : Fin 2048, (X (ix2 (y 1) l) : EReal) * (W (ix2 (y 0) l) : EReal)
      = ∑ l : Fin 2048, (W (ix2 (y 0) l) : EReal) * (X (ix2 (y 1) l) : EReal) := Finset.sum_congr rfl fun l _ => mul_comm _ _
  rw [e]
  rfl

end

/-- The reference's frame. -/
theorem reference_frame : Cert.quiescent_ProjectReferenceIdeal :=
  fun m ρ _ => (θ_run _ _ _).mono (fun r h => ⟨fun c => (h c).2.2.2.2, sem_eq_zero_of_no_sems (by decide) r.2⟩)
    (Cert.ProjectReferenceIdeal.Value.run m ρ)

/-- The kernel and the reference end with the same keys, queries, values and gates. -/
theorem equal : Cert.algebraic_ProjectIdeal_ProjectReferenceIdeal := by
  intro m g m' g' _ hm
  refine ⟨fun c => features (m ((c : Thread Cert.ProjectIdeal.nD Cert.ProjectIdeal.τ).loc Cert.ProjectIdeal.main_arg0))
      (m ((c : Thread Cert.ProjectIdeal.nD Cert.ProjectIdeal.τ).loc Cert.ProjectIdeal.main_arg1)),
    fun c => features (m ((c : Thread Cert.ProjectIdeal.nD Cert.ProjectIdeal.τ).loc Cert.ProjectIdeal.main_arg0))
      (m ((c : Thread Cert.ProjectIdeal.nD Cert.ProjectIdeal.τ).loc Cert.ProjectIdeal.main_arg2)),
    fun c => values (m ((c : Thread Cert.ProjectIdeal.nD Cert.ProjectIdeal.τ).loc Cert.ProjectIdeal.main_arg0))
      (m ((c : Thread Cert.ProjectIdeal.nD Cert.ProjectIdeal.τ).loc Cert.ProjectIdeal.main_arg3))
      (m ((c : Thread Cert.ProjectIdeal.nD Cert.ProjectIdeal.τ).loc Cert.ProjectIdeal.main_arg4)),
    fun c => gates (m ((c : Thread Cert.ProjectIdeal.nD Cert.ProjectIdeal.τ).loc Cert.ProjectIdeal.main_arg0))
      (m ((c : Thread Cert.ProjectIdeal.nD Cert.ProjectIdeal.τ).loc Cert.ProjectIdeal.main_arg5))
      (m ((c : Thread Cert.ProjectIdeal.nD Cert.ProjectIdeal.τ).loc Cert.ProjectIdeal.main_arg6)), ?_, ?_⟩
  · exact (θ_run _ _ _).mono (fun r h c => ⟨(h c).1.trans (kernel_keys m c), (h c).2.1.trans (kernel_queries m c),
      (h c).2.2.1.trans (kernel_values m c), (h c).2.2.2.1.trans (kernel_gates m c), (h c).2.2.2.2⟩) (Cert.ProjectIdeal.Value.run_blocks m g)
  · refine (θ_run _ _ _).mono (fun r h c => ⟨(h c).1.trans ?_, (h c).2.1.trans ?_, (h c).2.2.1.trans ?_, (h c).2.2.2.1.trans ?_,
      (h c).2.2.2.2⟩) (Cert.ProjectReferenceIdeal.Value.run m' g')
    all_goals
      obtain ⟨e0, e1, e2, e3, e4, e5, e6⟩ := hm c
    · rw [e0, e1]
      exact reference_features _ _
    · rw [e0, e2]
      exact reference_features _ _
    · rw [e0, e3, e4]
      exact reference_values _ _ _
    · rw [e0, e5, e6]
      exact reference_gates _ _ _

end Cert.Proj

end
-- ==== Proof.lean ====
/- The claims about the three calls, assembled. -/
module

public import proofs.«01_k».proof.Defs
public import proofs.«01_k».proof.Proof.Frames
public import proofs.«01_k».proof.Proof.Equal
public import proofs.«01_k».proof.Proof.Combine
public import proofs.«01_k».proof.Proof.Project
public import Idealize.ShloMosaic.Adequacy
public import Idealize.ShloMosaic.Init

@[expose] public section

noncomputable section

namespace Cert.Proof

open Idealize.ShloMosaic Idealize.SL.Sem

/-- All the claims: the frames, the named constants, and, for each call, that the kernel and the reference compute the same results. -/
theorem claim : Cert.Claim :=
  ⟨Cert.Kernel.Gen.facts, Cert.KernelIdeal.Gen.facts, Cert.ReferenceIdeal.Gen.facts,
    Cert.Project.Gen.facts, Cert.ProjectIdeal.Gen.facts, Cert.ProjectReferenceIdeal.Gen.facts,
    Cert.Combine.Gen.facts, Cert.CombineIdeal.Gen.facts, Cert.CombineReferenceIdeal.Gen.facts, Cert.Scan.given_facts,
    fun m ρ _ => Cert.Kernel.Gen.frame m ρ, fun m ρ _ => Cert.KernelIdeal.Gen.frame m ρ, Cert.Scan.kernel_frame_pre,
    Cert.Scan.reference_frame, Cert.Scan.reference_frame_pre,
    fun m ρ _ => Cert.Project.Gen.frame m ρ, fun m ρ _ => Cert.ProjectIdeal.Gen.frame m ρ, Cert.Proj.reference_frame,
    fun m ρ _ => Cert.Combine.Gen.frame m ρ, fun m ρ _ => Cert.CombineIdeal.Gen.frame m ρ, Cert.Comb.reference_frame,
    Cert.Scan.constants, Cert.Scan.equal, IdealRules.named_const.statement _ _ _ _ _ rfl, Cert.Proj.equal, trivial, Cert.Comb.equal⟩

end Cert.Proof

end
